-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ragged [hPre_finite_ragged : Cert.Pre_finite_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ragged [hPre_finite_ragged : Cert.Pre_finite_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_ragged [hKernelIdeal : Cert.KernelIdeal.Facts] [hPre_finite_ragged : Cert.Pre_finite_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ragged [hReferenceIdeal : Cert.ReferenceIdeal.Facts] [hPre_finite_ragged : Cert.Pre_finite_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_ragged [hKernelIdeal : Cert.KernelIdeal.Facts] [hReferenceIdeal : Cert.ReferenceIdeal.Facts] [hPre_finite_ragged : Cert.Pre_finite_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_ragged : Cert.Pre_finite_ragged.Facts),
    quiescent_Kernel (hKernel := hKernel)
    ∧ quiescent_KernelIdeal (hKernelIdeal := hKernelIdeal)
    ∧ quiescent_KernelIdeal_pre_finite_ragged (hKernelIdeal := hKernelIdeal) (hPre_finite_ragged := hPre_finite_ragged)
    ∧ quiescent_ReferenceIdeal (hReferenceIdeal := hReferenceIdeal)
    ∧ quiescent_ReferenceIdeal_pre_finite_ragged (hReferenceIdeal := hReferenceIdeal) (hPre_finite_ragged := hPre_finite_ragged)
    ∧ preserves_Kernel_KernelIdeal
    ∧ algebraic_KernelIdeal_ReferenceIdeal_pre_finite_ragged (hKernelIdeal := hKernelIdeal) (hReferenceIdeal := hReferenceIdeal) (hPre_finite_ragged := hPre_finite_ragged)
-- ==== Pre_finite_ragged.lean ====
abbrev S8192x256 : Shape := ⟨2, ![8192, 256]⟩
abbrev S9 : Shape := ⟨1, ![9]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S8 : Shape := ⟨1, ![8]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  slices_S9_S8_0 : S9.Slices ![0] S8
  slices_S9_S8_1 : S9.Slices ![1] S8
  reducesTo_S8_S_d0 : S8.ReducesTo [0] S_
  slices_S9_S1_0 : S9.Slices ![0] S1
  shapeCasts_S1_S_ : S1.ShapeCasts S_
  slices_S9_S1_8 : S9.Slices ![8] S1

variable [Facts]

def fn_part2 {F : FTy → Type} [FloatOps F] (main_v32 : IVec S_ 1) (main_v34 : IVec S_ 32) (main_c_10 : IVec S_ 32) : IVec S_ 1 :=
  let main_v35 : IVec S_ 1 := cmpi .eq main_v34 main_c_10
  let main_v36 : IVec S_ 1 := andi main_v32 main_v35
  main_v36

def fn_part1 {F : FTy → Type} [FloatOps F] (main_arg1 : IVec S9 32) (main_arg5 : FVec F S256x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : IVec S8 32 := (extractStridedSlice S8 ![0] · slices_S9_S8_0) main_arg1
  let main_v25 : IVec S8 32 := (extractStridedSlice S8 ![1] · slices_S9_S8_1) main_arg1
  let main_v26 : IVec S8 1 := cmpi .sle main_v24 main_v25
  let main_c_8 : IVec S_ 1 := constantI S_ 1 1#1
  let main_v27 : IVec S_ 1 := (fun x v => Host.reduce IntOp.andi x v reducesTo_S8_S_d0 h_S_) main_v26 main_c_8
  let main_v28 : IVec S_ 1 := andi main_v23 main_v27
  let main_v29 : IVec S1 32 := (extractStridedSlice S1 ![0] · slices_S9_S1_0) main_arg1
  let main_v30 : IVec S_ 32 := shapeCast S_ main_v29 shapeCasts_S1_S_
  let main_c_9 : IVec S_ 32 := constantI S_ 32 0#32
  let main_v31 : IVec S_ 1 := cmpi .sle main_v30 main_c_9
  let main_v32 : IVec S_ 1 := andi main_v28 main_v31
  let main_v33 : IVec S1 32 := (extractStridedSlice S1 ![8] · slices_S9_S1_8) main_arg1
  let main_v34 : IVec S_ 32 := shapeCast S_ main_v33 shapeCasts_S1_S_
  let main_c_10 : IVec S_ 32 := constantI S_ 32 8192#32
  fn_part2 (F := F) main_v32 main_v34 main_c_10

def fn {F : FTy → Type} [FloatOps F] (main_arg0 : FVec F S8192x256 .f32) (main_arg1 : IVec S9 32) (main_arg2 : FVec F S256 .f32) (main_arg3 : FVec F S256x256 .f32) (main_arg4 : FVec F S256 .f32) (main_arg5 : FVec F S256x1 .f32) (main_arg6 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_v13 main_v16
-- ==== Kernel.lean ====
abbrev S8192x256 : Shape := ⟨2, ![8192, 256]⟩
abbrev S9 : Shape := ⟨1, ![9]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S512x128 : Shape := ⟨2, ![512, 128]⟩
abbrev S65536x1 : Shape := ⟨2, ![65536, 1]⟩
abbrev S6x256 : Shape := ⟨2, ![6, 256]⟩
abbrev S8x256 : Shape := ⟨2, ![8, 256]⟩
abbrev S8x8192 : Shape := ⟨2, ![8, 8192]⟩
abbrev S8x8 : Shape := ⟨2, ![8, 8]⟩
abbrev S8x8200 : Shape := ⟨2, ![8, 8200]⟩
abbrev S1x8200 : Shape := ⟨2, ![1, 8200]⟩
abbrev S1x8192 : Shape := ⟨2, ![1, 8192]⟩
abbrev S8x1 : Shape := ⟨2, ![8, 1]⟩
abbrev S8192 : Shape := ⟨1, ![8192]⟩
abbrev S2x8192 : Shape := ⟨2, ![2, 8192]⟩
abbrev S3x8192 : Shape := ⟨2, ![3, 8192]⟩
abbrev S4x8192 : Shape := ⟨2, ![4, 8192]⟩
abbrev S5x8192 : Shape := ⟨2, ![5, 8192]⟩
abbrev S6x8192 : Shape := ⟨2, ![6, 8192]⟩
abbrev S7x8192 : Shape := ⟨2, ![7, 8192]⟩
abbrev S8x512x16 : Shape := ⟨3, ![8, 512, 16]⟩
abbrev S512x8x16 : Shape := ⟨3, ![512, 8, 16]⟩
abbrev S1x128 : Shape := ⟨2, ![1, 128]⟩
abbrev S512x128x1 : Shape := ⟨3, ![512, 128, 1]⟩

abbrev nBuf : Space → Nat
  | .hbm => 13
  | .vmem => 7
  | .smem => 1
  | _ => 0

abbrev bufTy : (tb : Table) → Fin (tcTables nBuf tb) → BufTy
  | .hbm, ⟨0, _⟩ => ⟨S8192x256, .f32⟩
  | .hbm, ⟨1, _⟩ => ⟨S9, .i32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S512x128, .f32⟩
  | .hbm, ⟨12, _⟩ => ⟨S65536x1, .f32⟩
  | .local _ .vmem, ⟨0, _⟩ => ⟨S8192x256, .f32⟩
  | .local _ .vmem, ⟨1, _⟩ => ⟨S1x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S512x128, .f32⟩
  | .local _ .smem, ⟨0, _⟩ => ⟨S9, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8192x256 : Shape := ⟨2, ![8192, 256]⟩
abbrev S9 : Shape := ⟨1, ![9]⟩
abbrev S256 : Shape := ⟨1, ![256]⟩
abbrev S256x256 : Shape := ⟨2, ![256, 256]⟩
abbrev S256x1 : Shape := ⟨2, ![256, 1]⟩
abbrev S1 : Shape := ⟨1, ![1]⟩
abbrev S8192 : Shape := ⟨1, ![8192]⟩
abbrev S1x9 : Shape := ⟨2, ![1, 9]⟩
abbrev S8192x1 : Shape := ⟨2, ![8192, 1]⟩
abbrev S8192x9 : Shape := ⟨2, ![8192, 9]⟩
abbrev S_ : Shape := ⟨0, ![]⟩
abbrev S8 : Shape := ⟨1, ![8]⟩
abbrev S1x8 : Shape := ⟨2, ![1, 8]⟩
abbrev S8192x8 : Shape := ⟨2, ![8192, 8]⟩
abbrev S1x1x8 : Shape := ⟨3, ![1, 1, 8]⟩
abbrev S8192x8x1 : Shape := ⟨3, ![8192, 8, 1]⟩
abbrev S8192x8x8 : Shape := ⟨3, ![8192, 8, 8]⟩
abbrev S8192x1x8 : Shape := ⟨3, ![8192, 1, 8]⟩
abbrev S8192x8x256 : Shape := ⟨3, ![8192, 8, 256]⟩
abbrev S65536x256 : Shape := ⟨2, ![65536, 256]⟩
abbrev S65536x1 : Shape := ⟨2, ![65536, 1]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S9, .i32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256, .f32⟩
  | .hbm, ⟨8, _⟩ => ⟨S256, .f32⟩
  | .hbm, ⟨9, _⟩ => ⟨S8192, .f32⟩
  | .hbm, ⟨10, _⟩ => ⟨S8192, .i32⟩
  | .hbm, ⟨11, _⟩ => ⟨S1x9, .i32⟩
  | .hbm, ⟨12, _⟩ => ⟨S8192x1, .i32⟩
  | .hbm, ⟨13, _⟩ => ⟨S8192x9, .i32⟩
  | .hbm, ⟨14, _⟩ => ⟨S8192x9, .i32⟩
  | .hbm, ⟨15, _⟩ => ⟨S8192x9, .i1⟩
  | .hbm, ⟨16, _⟩ => ⟨S8192x9, .i32⟩
  | .hbm, ⟨17, _⟩ => ⟨S_, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192, .i32⟩
  | .hbm, ⟨34, _⟩ => ⟨S8, .i32⟩
  | .hbm, ⟨35, _⟩ => ⟨S8192x1, .i32⟩
  | .hbm, ⟨36, _⟩ => ⟨S1x8, .i32⟩
  | .hbm, ⟨37, _⟩ => ⟨S8192x8, .i32⟩
  | .hbm, ⟨38, _⟩ => ⟨S8192x8, .i32⟩
  | .hbm, ⟨39, _⟩ => ⟨S8192x8, .i32⟩
  | .hbm, ⟨40, _⟩ => ⟨S_, .i32⟩
  | .hbm, ⟨41, _⟩ => ⟨S8192x8, .i32⟩
  | .hbm, ⟨42, _⟩ => ⟨S8192x8, .i32⟩
  | .hbm, ⟨43, _⟩ => ⟨S1x8, .i32⟩
  | .hbm, ⟨44, _⟩ => ⟨S_, .i32⟩
  | .hbm, ⟨45, _⟩ => ⟨S1x8, .i32⟩
  | .hbm, ⟨46, _⟩ => ⟨S1x8, .i32⟩
  | .hbm, ⟨47, _⟩ => ⟨S8192x1, .i32⟩
  | .hbm, ⟨48, _⟩ => ⟨S8192x1, .i32⟩
  | .hbm, ⟨49, _⟩ => ⟨S8192x1, .i32⟩
  | .hbm, ⟨50, _⟩ => ⟨S8192x8, .i32⟩
  | .hbm, ⟨51, _⟩ => ⟨S8192x8, .i32⟩
  | .hbm, ⟨52, _⟩ => ⟨S8192x8, .i32⟩
  | .hbm, ⟨53, _⟩ => ⟨S1x1x8, .i32⟩
  | .hbm, ⟨54, _⟩ => ⟨S8192x8x1, .i32⟩
  | .hbm, ⟨55, _⟩ => ⟨S8192x8x8, .i32⟩
  | .hbm, ⟨56, _⟩ => ⟨S8192x8x8, .i32⟩
  | .hbm, ⟨57, _⟩ => ⟨S8192x8x8, .i1⟩
  | .hbm, ⟨58, _⟩ => ⟨S_, .i32⟩
  | .hbm, ⟨59, _⟩ => ⟨S8192x8, .i32⟩
  | .hbm, ⟨60, _⟩ => ⟨S8192x8, .i1⟩
  | .hbm, ⟨61, _⟩ => ⟨S_, .i32⟩
  | .hbm, ⟨62, _⟩ => ⟨S8192x8, .i32⟩
  | .hbm, ⟨63, _⟩ => ⟨S8192x8, .i32⟩
  | .hbm, ⟨64, _⟩ => ⟨S8192x8, .i32⟩
  | .hbm, ⟨65, _⟩ => ⟨S8192x8x1, .i32⟩
  | .hbm, ⟨66, _⟩ => ⟨S8192x8, .f32⟩
  | .hbm, ⟨67, _⟩ => ⟨S8192x1x8, .f32⟩
  | .hbm, ⟨68, _⟩ => ⟨S_, .f32⟩
  | .hbm, ⟨69, _⟩ => ⟨S_, .f32⟩
  | .hbm, ⟨70, _⟩ => ⟨S8192x8x8, .f32⟩
  | .hbm, ⟨71, _⟩ => ⟨S8192x8x8, .f32⟩
  | .hbm, ⟨72, _⟩ => ⟨S8192x8x8, .f32⟩
  | .hbm, ⟨73, _⟩ => ⟨S_, .f32⟩
  | .hbm, ⟨74, _⟩ => ⟨S8192x8, .f32⟩
  | .hbm, ⟨75, _⟩ => ⟨S_, .f32⟩
  | .hbm, ⟨76, _⟩ => ⟨S8192x8, .f32⟩
  | .hbm, ⟨77, _⟩ => ⟨S8192x8, .f32⟩
  | .hbm, ⟨78, _⟩ => ⟨S8192x8x1, .f32⟩
  | .hbm, ⟨79, _⟩ => ⟨S8192x8x8, .f32⟩
  | .hbm, ⟨80, _⟩ => ⟨S8192x8x8, .f32⟩
  | .hbm, ⟨81, _⟩ => ⟨S8192x8x8, .f32⟩
  | .hbm, ⟨82, _⟩ => ⟨S_, .f32⟩
  | .hbm, ⟨83, _⟩ => ⟨S8192x8, .f32⟩
  | .hbm, ⟨84, _⟩ => ⟨S8192x8x1, .f32⟩
  | .hbm, ⟨85, _⟩ => ⟨S8192x8x8, .f32⟩
  | .hbm, ⟨86, _⟩ => ⟨S8192x8x8, .f32⟩
  | .hbm, ⟨87, _⟩ => ⟨S_, .i32⟩
  | .hbm, ⟨88, _⟩ => ⟨S8192x8, .i32⟩
  | .hbm, ⟨89, _⟩ => ⟨S8192x8, .i1⟩
  | .hbm, ⟨90, _⟩ => ⟨S_, .i32⟩
  | .hbm, ⟨91, _⟩ => ⟨S8192x8, .i32⟩
  | .hbm, ⟨92, _⟩ => ⟨S8192x8, .i32⟩
  | .hbm, ⟨93, _⟩ => ⟨S8192x8, .i32⟩
  | .hbm, ⟨94, _⟩ => ⟨S8192x8x1, .i32⟩
  | .hbm, ⟨95, _⟩ => ⟨S8192x8x256, .f32⟩
  | .hbm, ⟨96, _⟩ => ⟨S8192x8x256, .f32⟩
  | .hbm, ⟨97, _⟩ => ⟨S65536x256, .f32⟩
  | .hbm, ⟨98, _⟩ => ⟨S65536x1, .f32⟩
  | .hbm, ⟨99, _⟩ => ⟨S1x1, .f32⟩
  | .hbm, ⟨100, _⟩ => ⟨S65536x1, .f32⟩
  | .hbm, ⟨101, _⟩ => ⟨S65536x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Proof.KernelRun.lean ====
module

public import proofs.«01_k».proof.Defs
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.SpanValue

open Cert.KernelIdeal Cert.KernelIdeal.Gen

/-- The block the kernel stores, as one function of its seven operands: the stages of the body in order, each by the
    name of its payload. -/
def stored (x0 : Vec Ideal S9 .i32) (x1 : Vec Ideal S8192x256 .f32) (x2 : Vec Ideal S1x256 .f32)
    (x3 : Vec Ideal S256x256 .f32) (x4 x5 : Vec Ideal S1x256 .f32) (x6 : Vec Ideal S1x1 .f32) : FVec Ideal S512x128 .f32 :=
  let lw := k0_pay3 x2 x3 x4 x5 x1
  let cw := k0_pay4 x2 x3 x4 x5 x1
  let pos := iota .tc S1x8192 32 [1] iota_S1x8192_d1_w32
  let e := k0_pay6 pos (k0_pay5 (F := Ideal) (x0 (ix1 1))) (x0 (ix1 2)) (x0 (ix1 3)) (x0 (ix1 4)) (x0 (ix1 5)) (x0 (ix1 6)) (x0 (ix1 7))
  let g := k0_pay7 (F := Ideal) pos (x0 (ix1 8))
  let h := k0_pay8 (F := Ideal) (x0 (ix1 8))
  let z := k0_pay9 lw pos e g 8192#32 h
  let b := k0_pay10 x6
  k0_pay1
    (k0_pay19 cw z b (k0_pay11 lw cw pos e g 8192#32 h x6) (k0_pay12 lw cw pos e g 8192#32 h x6)
      (k0_pay15 cw b (k0_pay13 lw pos e g 8192#32 h) (k0_pay14 lw pos e g 8192#32 h)) (k0_pay16 cw z b) (k0_pay17 cw z b)
      (k0_pay18 cw z))
    (iota .tc S1x128 32 [1] iota_S1x128_d1_w32) 8#32 k0_pay20 k0_pay21

/-- One boundary word read from scalar memory is that entry of the boundary list. -/
theorem word_ld (x0 : Vec Ideal S9 .i32) (k : Fin 9) (inb) (h) :
    View.ld x0 (Rect.unit (s := S9) ![k.val] S1.size inb) (Shape.Idx.first h) = x0 (ix1 k) := by
  rw [View.ld_apply]
  congr 1
  funext a
  fin_cases a
  exact Fin.ext (by simp [Rect.idx_unit_val, ix1, Shape.Idx.first])

/-- The store covers the output block, so the run leaves there what the body stored. -/
theorem out_eq (c : Dev nD) (arg0 : Memref sig .tc .smem S9 .i32) (harg0 : arg0.IsWhole) (arg1 : Memref sig .tc .vmem S8192x256 .f32) (harg1 : arg1.IsWhole)
    (arg2 : Memref sig .tc .vmem S1x256 .f32) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1x1 .f32) (harg6 : arg6.IsWhole) (arg7 : Memref sig .tc .vmem S512x128 .f32) (harg7 : arg7.IsWhole)
    (x0 : Vec Ideal S9 .i32) (x1 : Vec Ideal S8192x256 .f32) (x2 : Vec Ideal S1x256 .f32)
    (x3 : Vec Ideal S256x256 .f32) (x4 x5 : Vec Ideal S1x256 .f32) (x6 : Vec Ideal S1x1 .f32) :
    out0_A_7 c arg0 harg0 arg1 harg1 arg2 harg2 arg3 harg3 arg4 harg4 arg5 harg5 arg6 harg6 arg7 harg7 x0 x1 x2 x3 x4 x5 x6
      = stored x0 x1 x2 x3 x4 x5 x6 := by
  frame_out
  have w (k : Fin 9) (inb) (h) := word_ld x0 k inb h
  have w1 := w 1; have w2 := w 2; have w3 := w 3; have w4 := w 4; have w5 := w 5; have w6 := w 6; have w7 := w 7; have w8 := w 8
  simp only [stored, ← w1 inb_S9_S1_1 (by decide), ← w2 inb_S9_S1_2 (by decide), ← w3 inb_S9_S1_3 (by decide), ← w4 inb_S9_S1_4 (by decide), ← w5 inb_S9_S1_5 (by decide), ← w6 inb_S9_S1_6 (by decide), ← w7 inb_S9_S1_7 (by decide), ← w8 inb_S9_S1_8 (by decide)]
  rfl

variable (m : (ℓ : Loc nD τ sig) → Buf (Elt Ideal) ℓ) (ρ : Dev nD → PrngReg)

/-- The boundary operand is the boundary list. -/
theorem iblk0 (c : Dev nD) : (iblk m c 0 t0_0 : Vec Ideal S9 .i32) = (m ((c.tc : Thread nD τ).loc main_arg1) : Vec Ideal S9 .i32) := by
  funext j
  blk_ext [iblk, V] <;> simp [show win0_0.index t0_0 0 = 0 from by decide +kernel]

/-- The second operand is the array of hidden rows. -/
theorem iblk1 (c : Dev nD) : (iblk m c 1 t0_0 : Vec Ideal S8192x256 .f32) = (m ((c.tc : Thread nD τ).loc main_arg0) : Vec Ideal S8192x256 .f32) := by
  funext j
  blk_ext [iblk, V] <;> simp [show win0_1.index t0_0 0 = 0 from by decide +kernel, show win0_1.index t0_0 1 = 0 from by decide +kernel]

/-- The third operand is the term weight, laid out as a row. -/
theorem iblk2 (c : Dev nD) : (iblk m c 2 t0_0 : Vec Ideal S1x256 .f32) = shapeCast S1x256 (m ((c.tc : Thread nD τ).loc main_arg2) : Vec Ideal S256 .f32) shapeCasts_S256_S1x256 := by
  funext j
  blk_ext [iblk, V] <;> simp [show win0_2.index t0_0 0 = 0 from by decide +kernel, show win0_2.index t0_0 1 = 0 from by decide +kernel]

/-- The fourth operand is the inner weight. -/
theorem iblk3 (c : Dev nD) : (iblk m c 3 t0_0 : Vec Ideal S256x256 .f32) = (m ((c.tc : Thread nD τ).loc main_arg3) : Vec Ideal S256x256 .f32) := by
  funext j
  blk_ext [iblk, V] <;> simp [show win0_3.index t0_0 0 = 0 from by decide +kernel, show win0_3.index t0_0 1 = 0 from by decide +kernel]

/-- The fifth operand is the inner bias, laid out as a row. -/
theorem iblk4 (c : Dev nD) : (iblk m c 4 t0_0 : Vec Ideal S1x256 .f32) = shapeCast S1x256 (m ((c.tc : Thread nD τ).loc main_arg4) : Vec Ideal S256 .f32) shapeCasts_S256_S1x256 := by
  funext j
  blk_ext [iblk, V] <;> simp [show win0_4.index t0_0 0 = 0 from by decide +kernel, show win0_4.index t0_0 1 = 0 from by decide +kernel]

/-- The sixth operand is the score weight, laid out as a row. -/
theorem iblk5 (c : Dev nD) : (iblk m c 5 t0_0 : Vec Ideal S1x256 .f32) = shapeCast S1x256 (m ((c.tc : Thread nD τ).loc main_arg5) : Vec Ideal S256x1 .f32) shapeCasts_S256x1_S1x256 := by
  funext j
  blk_ext [iblk, V] <;> simp [show win0_5.index t0_0 0 = 0 from by decide +kernel, show win0_5.index t0_0 1 = 0 from by decide +kernel]

/-- The last operand is the score bias. -/
theorem iblk6 (c : Dev nD) : (iblk m c 6 t0_0 : Vec Ideal S1x1 .f32) = shapeCast S1x1 (m ((c.tc : Thread nD τ).loc main_arg6) : Vec Ideal S1 .f32) shapeCasts_S1_S1x1 := by
  funext j
  blk_ext [iblk, V] <;> simp [show win0_6.index t0_0 0 = 0 from by decide +kernel, show win0_6.index t0_0 1 = 0 from by decide +kernel]

/-- After the run the output array is the stored block of the seven operands. -/
theorem final (c : Dev nD) : (dats m 0 c).arrAt 7 (cfgs 0).N = stored (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 7 t0_0 (by decide +kernel) _ fun j => ?_
  blk_simp
  rw [after0_7]
  unfold outsAt0
  rw [out_eq]

/-- The kernel's result on device `c`, from its arguments: the stored block read in rows of one. -/
def result (c : Dev nD) : Vec Ideal S65536x1 .f32 :=
  shapeCast S65536x1
    (stored (m ((c.tc : Thread nD τ).loc main_arg1)) (m ((c.tc : Thread nD τ).loc main_arg0))
      (shapeCast S1x256 (m ((c.tc : Thread nD τ).loc main_arg2) : Vec Ideal S256 .f32) shapeCasts_S256_S1x256)
      (m ((c.tc : Thread nD τ).loc main_arg3))
      (shapeCast S1x256 (m ((c.tc : Thread nD τ).loc main_arg4) : Vec Ideal S256 .f32) shapeCasts_S256_S1x256)
      (shapeCast S1x256 (m ((c.tc : Thread nD τ).loc main_arg5) : Vec Ideal S256x1 .f32) shapeCasts_S256x1_S1x256)
      (shapeCast S1x1 (m ((c.tc : Thread nD τ).loc main_arg6) : Vec Ideal S1 .f32) shapeCasts_S1_S1x1))
    shapeCasts_S512x128_S65536x1

/-- The buffer the program returns is the reshape of the output array. -/
theorem tail_eq (c : Dev nD) :
    Pipeline.afterTail₀ cfgs (dats m) 0 (V0 m) [hostOps1] c main_v0
      = shapeCast S65536x1 ((dats m 0 c).arrAt 7 (cfgs 0).N : Vec Ideal S512x128 .f32) shapeCasts_S512x128_S65536x1 := by
  unfold Pipeline.afterTail₀
  simp only [List.flatten_cons, List.flatten_nil, List.append_nil]
  after_results
  funext i
  have h := Pipeline.Dat.withArrays_arrAt (dats m 0 c) (by decide) (V0 m c) (fun w => rfl) 7
  exact congrFun (congrArg (fun v : Vec Ideal S512x128 .f32 => shapeCast S65536x1 v shapeCasts_S512x128_S65536x1) h) i

/-- The run of the idealized kernel: the result, and the arguments unchanged. -/
theorem run (ρ : Dev nD → PrngReg) :
    θ_run Cert.KernelIdeal.defs (onTc Cert.KernelIdeal.main) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  · rw [tail_eq, final, iblk0, iblk1, iblk2, iblk3, iblk4, iblk5, iblk6]
    rfl
  · exact W_main_arg2 m (dats m) c
  · exact W_main_arg4 m (dats m) c
  · exact W_main_arg5 m (dats m) c
  · exact W_main_arg6 m (dats m) c

end Cert.KernelIdeal.SpanValue
end
-- ==== Proof.KernelRow.lean ====
module

public import proofs.«01_k».proof.Defs
public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.SpanValue

open Cert.KernelIdeal Cert.KernelIdeal.Gen

/-- `n` rows of 8192 numbers. -/
abbrev Rows (n : ℕ) : Shape := ⟨2, ![n, 8192]⟩

/-- The greatest number of every column, as a row. -/
def rowsMax (n : ℕ) (z : FVec Ideal (Rows n) .f32) (hr : (Rows n).Reduces [0] S8192) : FVec Ideal S1x8192 .f32 :=
  shapeCast S1x8192 (multiReduction .maximumf [0] S8192 z 0xFF800000#32 hr (.inl rfl) rfl) shapeCasts_S8192_S1x8192

/-- The sum of every column, as a row. -/
def rowsSum (n : ℕ) (z : FVec Ideal (Rows n) .f32) (hr : (Rows n).Reduces [0] S8192) : FVec Ideal S1x8192 .f32 :=
  shapeCast S1x8192 (multiReduction .add [0] S8192 z 0x00000000#32 hr (.inl rfl) rfl) shapeCasts_S8192_S1x8192

/-- A column's sum. -/
theorem rowsSum_apply (n : ℕ) (z : FVec Ideal (Rows n) .f32) (hr) (t : Fin 8192) :
    rowsSum n z hr (ix2 0 t) = ∑ w : Fin n, z (ix2 w t) := by
  pointwise [rowsSum]

/-- A column's maximum. -/
theorem rowsMax_apply (n : ℕ) (z : FVec Ideal (Rows n) .f32) (hr) (t : Fin 8192) :
    rowsMax n z hr (ix2 0 t) = Finset.univ.sup fun w : Fin n => z (ix2 w t) := by
  pointwise [rowsMax]
  rw [show Ideal.ofBits FTy.f32 4286578688#32 = ⊥ from by simp [Ideal.ofBits, Ideal.ieee]]
  rfl

/-- The eight rows the hidden rows are multiplied with. -/
def packed (v0 : Vec Ideal S1x256 .f32) (v2 : Vec Ideal S256x256 .f32) (v4 v7 : Vec Ideal S1x256 .f32) : FVec Ideal S8x256 .f32 :=
  concatenate S8x256 0 [⟨S1x256, addf (matmul (φ₁ := .f32) (φ₂ := .f32) dot_S1x256_S256x256_S1x256_1_1_0_0_n_n none (shapeCast S1x256 v0 shapeCasts_S1x256_S1x256) v2 (constant S1x256 .f32 0x00000000#32)) (shapeCast S1x256 v4 shapeCasts_S1x256_S1x256)⟩, ⟨S1x256, shapeCast S1x256 v7 shapeCasts_S1x256_S1x256⟩, ⟨S6x256, broadcast S6x256 (Scalar.ofBits (F := Ideal) .f32 0x00000000#32)⟩] concatenates_S1x256_S1x256_S6x256_S8x256_d0

/-- The first packed row is the query. -/
theorem packed_zero (v0 : Vec Ideal S1x256 .f32) (v2 : Vec Ideal S256x256 .f32) (v4 v7 : Vec Ideal S1x256 .f32) (k : Fin 256) :
    packed v0 v2 v4 v7 (ix2 0 k) = (∑ j : Fin 256, v0 (ix2 0 j) * v2 (ix2 k j)) + v4 (ix2 0 k) := by
  pointwise [packed]

/-- The second packed row is the score weights. -/
theorem packed_one (v0 : Vec Ideal S1x256 .f32) (v2 : Vec Ideal S256x256 .f32) (v4 v7 : Vec Ideal S1x256 .f32) (k : Fin 256) :
    packed v0 v2 v4 v7 (ix2 1 k) = v7 (ix2 0 k) := by
  pointwise [packed]

/-- The products of the packed rows with every hidden row. -/
def products (p : FVec Ideal S8x256 .f32) (hid : Vec Ideal S8192x256 .f32) : FVec Ideal S8x8192 .f32 :=
  matmul (φ₁ := .f32) (φ₂ := .f32) dot_S8x256_S8192x256_S8x8192_1_1_0_0_n_n none p hid (constant S8x8192 .f32 0x00000000#32)

/-- A product row at a token is the inner product with the hidden state. -/
theorem products_apply (p : FVec Ideal S8x256 .f32) (hid : Vec Ideal S8192x256 .f32) (r : Fin 8) (t : Fin 8192) :
    products p hid (ix2 r t) = ∑ k : Fin 256, p (ix2 r k) * hid (ix2 t k) := by
  pointwise [products]

/-- The rows with their first eight entries appended again. -/
def wrapped (v12 : FVec Ideal S8x8192 .f32) : FVec Ideal S8x8200 .f32 :=
  concatenate S8x8200 1 [⟨S8x8192, v12⟩, ⟨S8x8, extractStridedSlice S8x8 ![0, 0] v12 slices_S8x8192_o0_0_S8x8⟩] concatenates_S8x8192_S8x8_S8x8200_d1

/-- The appended entries are the first ones again: the position counts modulo the number of tokens. -/
theorem wrapped_apply (v : FVec Ideal S8x8192 .f32) (r : Fin 8) (t : Fin 8200) :
    wrapped v (ix2 r t) = v (ix2 r ⟨t % 8192, Nat.mod_lt _ (by norm_num)⟩) := by
  have key (a b : Fin 8192) (h : a.val = b.val) : v (ix2 r a) = v (ix2 r b) := by rw [Fin.ext h]
  pointwise [wrapped]
  split_ifs <;> exact key _ _ (by simp only; omega)

/-- The extended product rows are the products of the packed rows, wrapped. -/
theorem pay2_eq (v0 : Vec Ideal S1x256 .f32) (v2 : Vec Ideal S256x256 .f32) (v4 v7 : Vec Ideal S1x256 .f32) (hid : Vec Ideal S8192x256 .f32) :
    k0_pay2 v0 v2 v4 v7 hid = wrapped (products (packed v0 v2 v4 v7) hid) := rfl

/-- Eight copies of one row, each a step further on. -/
def shifted (v : FVec Ideal S1x8200 .f32) : FVec Ideal S8x8192 .f32 :=
  concatenate S8x8192 0 [⟨S1x8192, extractStridedSlice S1x8192 ![0, 0] v slices_S1x8200_o0_0_S1x8192⟩, ⟨S1x8192, extractStridedSlice S1x8192 ![0, 1] v slices_S1x8200_o0_1_S1x8192⟩, ⟨S1x8192, extractStridedSlice S1x8192 ![0, 2] v slices_S1x8200_o0_2_S1x8192⟩, ⟨S1x8192, extractStridedSlice S1x8192 ![0, 3] v slices_S1x8200_o0_3_S1x8192⟩, ⟨S1x8192, extractStridedSlice S1x8192 ![0, 4] v slices_S1x8200_o0_4_S1x8192⟩, ⟨S1x8192, extractStridedSlice S1x8192 ![0, 5] v slices_S1x8200_o0_5_S1x8192⟩, ⟨S1x8192, extractStridedSlice S1x8192 ![0, 6] v slices_S1x8200_o0_6_S1x8192⟩, ⟨S1x8192, extractStridedSlice S1x8192 ![0, 7] v slices_S1x8200_o0_7_S1x8192⟩] concatenates_S1x8192_S1x8192_S1x8192_S1x8192_S1x8192_S1x8192_S1x8192_S1x8192_S8x8192_d0

/-- Copy `w` at position `t` is the row at `t + w`. -/
theorem shifted_apply (v : FVec Ideal S1x8200 .f32) (w : Fin 8) (t : Fin 8192) :
    shifted v (ix2 w t) = v (ix2 0 ⟨t + w, by omega⟩) := by
  have key (a a' : Fin 1) (b b' : Fin 8200) (h : b.val = b'.val) : v (ix2 a b) = v (ix2 a' b') := by
    rw [Fin.ext h, Subsingleton.elim a a']
  pointwise [shifted]
  split_ifs <;> exact key _ _ _ _ (by simp only; omega)

/-- The logit window is the first product row, shifted. -/
theorem pay3_eq (v0 : Vec Ideal S1x256 .f32) (v2 : Vec Ideal S256x256 .f32) (v4 v7 : Vec Ideal S1x256 .f32) (hid : Vec Ideal S8192x256 .f32) :
    k0_pay3 v0 v2 v4 v7 hid = shifted (extractStridedSlice S1x8200 ![0, 0] (k0_pay2 v0 v2 v4 v7 hid) slices_S8x8200_o0_0_S1x8200) := rfl

/-- The score window is the second product row, shifted. -/
theorem pay4_eq (v0 : Vec Ideal S1x256 .f32) (v2 : Vec Ideal S256x256 .f32) (v4 v7 : Vec Ideal S1x256 .f32) (hid : Vec Ideal S8192x256 .f32) :
    k0_pay4 v0 v2 v4 v7 hid = shifted (extractStridedSlice S1x8200 ![1, 0] (k0_pay2 v0 v2 v4 v7 hid) slices_S8x8200_o1_0_S1x8200) := rfl

end Cert.KernelIdeal.SpanValue
end
-- ==== Proof.KernelOut.lean ====
module

public import proofs.«01_k».proof.Proof.KernelRow

@[expose] public section

set_option maxRecDepth 16384

noncomputable section

open Idealize.ShloMosaic Idealize.ShloMosaic.TcCoe Idealize.SL.Sem

namespace Cert.KernelIdeal.SpanValue

open Cert.KernelIdeal Cert.KernelIdeal.Gen

/-- The weighted mean of `g` over the first `n` numbers, the weights being the exponentials of `f` less its greatest
    value there. -/
def mean (n : ℕ) (f g : ℕ → EReal) : EReal :=
  Ideal.div (∑ w ∈ Finset.range n, Ideal.exp (f w - (Finset.range n).sup f) * g w)
    (∑ w ∈ Finset.range n, Ideal.exp (f w - (Finset.range n).sup f))

/-- One row of the kernel's answers: the quotient of two column sums, plus the bias. -/
def row (n : ℕ) (z c mb : FVec Ideal (Rows n) .f32) (hr : (Rows n).Reduces [0] S8192) (b : EReal) : FVec Ideal S1x8192 .f32 :=
  addf (φ := .f32) (divf (rowsSum n (mulf (exp (subf z mb)) c) hr) (rowsSum n (exp (subf z mb)) hr)) (broadcast S1x8192 b)

/-- A row of answers at a position is the weighted mean there plus the bias, if the subtracted row is the maximum. -/
theorem row_apply (n : ℕ) (z c mb : FVec Ideal (Rows n) .f32) (hr) (b : EReal) (t : Fin 8192) (f g : ℕ → EReal)
    (hz : ∀ w : Fin n, z (ix2 w t) = f w) (hc : ∀ w : Fin n, c (ix2 w t) = g w)
    (hm : ∀ w : Fin n, mb (ix2 w t) = rowsMax n z hr (ix2 0 t)) :
    row n z c mb hr b (ix2 0 t) = mean n f g + b := by
  have hM : rowsMax n z hr (ix2 0 t) = (Finset.range n).sup f := by
    rw [rowsMax_apply]
    simp only [hz]
    apply le_antisymm
    · exact Finset.sup_le fun w _ => Finset.le_sup (f := f) (Finset.mem_range.2 w.2)
    · exact Finset.sup_le fun w hw => Finset.le_sup (f := fun w : Fin n => f w) (Finset.mem_univ ⟨w, Finset.mem_range.1 hw⟩)
  unfold row
  rw [addf_apply, divf_apply, rowsSum_apply, rowsSum_apply]
  pointwise
  simp only [hz, hc, hm, hM, mean, Finset.sum_range]

/-- Eight rows as one array. -/
def stack (R : Fin 8 → FVec Ideal S1x8192 .f32) : FVec Ideal S8x8192 .f32 :=
  concatenate S8x8192 0 [⟨S1x8192, R 0⟩, ⟨S1x8192, R 1⟩, ⟨S1x8192, R 2⟩, ⟨S1x8192, R 3⟩, ⟨S1x8192, R 4⟩, ⟨S1x8192, R 5⟩, ⟨S1x8192, R 6⟩, ⟨S1x8192, R 7⟩] concatenates_S1x8192_S1x8192_S1x8192_S1x8192_S1x8192_S1x8192_S1x8192_S1x8192_S8x8192_d0

/-- Row `s` of the stack is the row `s`. -/
theorem stack_apply (R : Fin 8 → FVec Ideal S1x8192 .f32) (s : Fin 8) (t : Fin 8192) :
    stack R (ix2 s t) = R s (ix2 0 t) := by
  have key (a b : Fin 8) (x y : Fin 1) (h : a.val = b.val) : R a (ix2 x t) = R b (ix2 y t) := by
    rw [Fin.ext h, Subsingleton.elim x y]
  pointwise [stack]
  split_ifs <;> exact key _ _ _ _ (by simp; omega)

/-- The eight rows laid out in blocks of sixteen positions, one block of eight rows to a line of 128 lanes. -/
def lanes (v219 : FVec Ideal S8x8192 .f32) : FVec Ideal S512x128 .f32 :=
  shapeCast S512x128 (transpose S512x8x16 [1, 0, 2] (shapeCast S8x512x16 v219 shapeCasts_S8x8192_S8x512x16) transposes_S8x512x16_p1_0_2_S512x8x16) shapeCasts_S512x8x16_S512x128

/-- Where that layout finds a line and lane: row `l / 16` at position `a * 16 + l % 16`. -/
theorem lanes_apply (v : FVec Ideal S8x8192 .f32) (a : Fin 512) (l : Fin 128) :
    lanes v (ix2 a l) = v (ix2 ⟨l / 16, by omega⟩ ⟨a * 16 + l % 16, by omega⟩) := by
  pointwise [lanes]

/-- The last permutation of the lanes: the eight answers of one position become neighbours. -/
theorem pay1_apply (v : FVec Ideal S512x128 .f32) (a : Fin 512) (l : Fin 128) :
    k0_pay1 v (iota .tc S1x128 32 [1] iota_S1x128_d1_w32) 8#32 k0_pay20 k0_pay21 (ix2 a l)
      = v (ix2 a ⟨l % 8 * 16 + l / 8, by omega⟩) := by
  pointwise [k0_pay1, k0_pay20, k0_pay21]
  refine congrArg v (congrArg (ix2 a) (Fin.ext ?_))
  change _ % 128 = l.val % 8 * 16 + l.val / 8
  clear v a
  revert l
  decide +kernel

/-- A boundary that lies past position `p`, and the number of positions for one that does not. -/
def cand (p c : BitVec 32) : BitVec 32 := Scalar.select (IntOp.cmpi .sgt c p) c 8192#32

/-- Where the kernel says the segment of position `p` ends: the least of the boundaries past it. -/
def kernelEnd (c : Fin 9 → BitVec 32) (p : BitVec 32) : BitVec 32 :=
  IntOp.minsi (IntOp.minsi (IntOp.minsi (IntOp.minsi (IntOp.minsi (IntOp.minsi (IntOp.minsi (IntOp.minsi 8192#32 (cand p (c 1)))
    (cand p (c 2))) (cand p (c 3))) (cand p (c 4))) (cand p (c 5))) (cand p (c 6))) (cand p (c 7))) (cand p (c 8))

/-- The masked logits: the logit before the end of the segment, the least value from there on. -/
theorem masked_apply (lw : FVec Ideal S8x8192 .f32) (x0 : Vec Ideal S9 .i32) (w : Fin 8) (t : Fin 8192) :
    k0_pay9 lw (iota .tc S1x8192 32 [1] iota_S1x8192_d1_w32)
      (k0_pay6 (F := Ideal) (iota .tc S1x8192 32 [1] iota_S1x8192_d1_w32) (k0_pay5 (F := Ideal) (x0 (ix1 1))) (x0 (ix1 2)) (x0 (ix1 3)) (x0 (ix1 4)) (x0 (ix1 5)) (x0 (ix1 6)) (x0 (ix1 7)))
      (k0_pay7 (F := Ideal) (iota .tc S1x8192 32 [1] iota_S1x8192_d1_w32) (x0 (ix1 8))) 8192#32 (k0_pay8 (F := Ideal) (x0 (ix1 8))) (ix2 w t)
      = Scalar.select (IntOp.cmpi .slt (BitVec.ofNat 32 w) (IntOp.subi (kernelEnd (fun j => x0 (ix1 j)) (BitVec.ofNat 32 t)) (BitVec.ofNat 32 t)))
          (lw (ix2 w t)) ⊥ := by
  pointwise [k0_pay9, k0_pay6, k0_pay5, k0_pay7, k0_pay8]
  unfold kernelEnd cand
  congr 1

/-- The first `n` of eight rows. -/
theorem slice_apply (n : ℕ) (hn : n ≤ 8) (z : FVec Ideal S8x8192 .f32) (h : S8x8192.Slices ![0, 0] (Rows n)) (w : Fin n) (t : Fin 8192) :
    extractStridedSlice (Rows n) ![0, 0] z h (ix2 w t) = z (ix2 (w.castLE hn) t) := by
  pointwise
  rfl

/-- One row repeated. -/
theorem repeat_apply (n : ℕ) (x : FVec Ideal S1x8192 .f32) (h : S1x8192.Broadcasts (Rows n)) (w : Fin n) (t : Fin 8192) :
    broadcastTo (Rows n) x h (ix2 w t) = x (ix2 0 t) := by
  pointwise

/-- A row of answers made from the first `n` of the eight logit rows and of the eight value rows. -/
theorem slicedRow_apply (n : ℕ) (hn : n ≤ 8) (z c : FVec Ideal S8x8192 .f32) (hs : S8x8192.Slices ![0, 0] (Rows n))
    (hb : S1x8192.Broadcasts (Rows n)) (hr : (Rows n).Reduces [0] S8192) (b : EReal) (t : Fin 8192) (f g : ℕ → EReal)
    (hz : ∀ w : Fin 8, z (ix2 w t) = f w) (hc : ∀ w : Fin 8, c (ix2 w t) = g w) :
    row n (extractStridedSlice (Rows n) ![0, 0] z hs) (extractStridedSlice (Rows n) ![0, 0] c hs)
      (broadcastTo (Rows n) (rowsMax n (extractStridedSlice (Rows n) ![0, 0] z hs) hr) hb) hr b (ix2 0 t) = mean n f g + b :=
  row_apply _ _ _ _ _ _ _ _ _ (fun w => (slice_apply n hn z hs w t).trans (hz _)) (fun w => (slice_apply n hn c hs w t).trans (hc _))
    fun w => repeat_apply n _ hb w t

/-- The eight rows of answers. -/
def answers (z c : FVec Ideal S8x8192 .f32) (b : EReal) : Fin 8 → FVec Ideal S1x8192 .f32 :=
  let r (n : ℕ) (hs : S8x8192.Slices ![0, 0] (Rows n)) (hb : S1x8192.Broadcasts (Rows n)) (hr : (Rows n).Reduces [0] S8192) :=
    row n (extractStridedSlice (Rows n) ![0, 0] z hs) (extractStridedSlice (Rows n) ![0, 0] c hs)
      (broadcastTo (Rows n) (rowsMax n (extractStridedSlice (Rows n) ![0, 0] z hs) hr) hb) hr b
  ![row 1 (extractStridedSlice S1x8192 ![0, 0] z slices_S8x8192_o0_0_S1x8192) (extractStridedSlice S1x8192 ![0, 0] c slices_S8x8192_o0_0_S1x8192)
      (rowsMax 1 (extractStridedSlice S1x8192 ![0, 0] z slices_S8x8192_o0_0_S1x8192) reduces_S1x8192_S8192) reduces_S1x8192_S8192 b,
    r 2 slices_S8x8192_o0_0_S2x8192 broadcasts_S1x8192_S2x8192 reduces_S2x8192_S8192,
    r 3 slices_S8x8192_o0_0_S3x8192 broadcasts_S1x8192_S3x8192 reduces_S3x8192_S8192,
    r 4 slices_S8x8192_o0_0_S4x8192 broadcasts_S1x8192_S4x8192 reduces_S4x8192_S8192,
    r 5 slices_S8x8192_o0_0_S5x8192 broadcasts_S1x8192_S5x8192 reduces_S5x8192_S8192,
    r 6 slices_S8x8192_o0_0_S6x8192 broadcasts_S1x8192_S6x8192 reduces_S6x8192_S8192,
    r 7 slices_S8x8192_o0_0_S7x8192 broadcasts_S1x8192_S7x8192 reduces_S7x8192_S8192,
    row 8 z c (broadcastTo S8x8192 (rowsMax 8 z reduces_S8x8192_S8192) broadcasts_S1x8192_S8x8192) reduces_S8x8192_S8192 b]

/-- Answer row `s` is the weighted mean over the first `s + 1` positions of the window, plus the bias. -/
theorem answers_apply (z c : FVec Ideal S8x8192 .f32) (b : EReal) (t : Fin 8192) (f g : ℕ → EReal)
    (hz : ∀ w : Fin 8, z (ix2 w t) = f w) (hc : ∀ w : Fin 8, c (ix2 w t) = g w) (s : Fin 8) :
    answers z c b s (ix2 0 t) = mean (s + 1) f g + b := by
  have sl (n : ℕ) (hn : n ≤ 8) (hs) (hb) (hr) := slicedRow_apply n hn z c hs hb hr b t f g hz hc
  fin_cases s
  · exact row_apply _ _ _ _ _ _ _ _ _ (fun w => (slice_apply 1 (by norm_num) z slices_S8x8192_o0_0_S1x8192 w t).trans (hz _))
      (fun w => (slice_apply 1 (by norm_num) c slices_S8x8192_o0_0_S1x8192 w t).trans (hc _)) fun w => by rw [Subsingleton.elim w 0]
  · exact sl 2 (by norm_num) _ _ _
  · exact sl 3 (by norm_num) _ _ _
  · exact sl 4 (by norm_num) _ _ _
  · exact sl 5 (by norm_num) _ _ _
  · exact sl 6 (by norm_num) _ _ _
  · exact sl 7 (by norm_num) _ _ _
  · exact row_apply _ _ _ _ _ _ _ _ _ hz hc fun w => repeat_apply 8 _ broadcasts_S1x8192_S8x8192 w t

/-- What is stored at one place of the output block. -/
theorem place_apply (lw cw : FVec Ideal S8x8192 .f32) (pos e : IVec S1x8192 32) (u : IVec S1x8192 1) (h : IVec S1x8192 32)
    (x6 : Vec Ideal S1x1 .f32) (a : Fin 512) (l : Fin 128) (f g : ℕ → EReal)
    (hz : ∀ w : Fin 8, k0_pay9 lw pos e u 8192#32 h (ix2 w ⟨a * 16 + l / 8, by omega⟩) = f w)
    (hc : ∀ w : Fin 8, cw (ix2 w ⟨a * 16 + l / 8, by omega⟩) = g w) :
    k0_pay1
      (k0_pay19 cw (k0_pay9 lw pos e u 8192#32 h) (k0_pay10 x6) (k0_pay11 lw cw pos e u 8192#32 h x6) (k0_pay12 lw cw pos e u 8192#32 h x6)
        (k0_pay15 cw (k0_pay10 x6) (k0_pay13 lw pos e u 8192#32 h) (k0_pay14 lw pos e u 8192#32 h)) (k0_pay16 cw (k0_pay9 lw pos e u 8192#32 h) (k0_pay10 x6))
        (k0_pay17 cw (k0_pay9 lw pos e u 8192#32 h) (k0_pay10 x6)) (k0_pay18 cw (k0_pay9 lw pos e u 8192#32 h)))
      (iota .tc S1x128 32 [1] iota_S1x128_d1_w32) 8#32 k0_pay20 k0_pay21 (ix2 a l)
      = mean (l % 8 + 1) f g + x6 (ix2 0 0) := by
  have e19 : (k0_pay19 cw (k0_pay9 lw pos e u 8192#32 h) (k0_pay10 x6) (k0_pay11 lw cw pos e u 8192#32 h x6) (k0_pay12 lw cw pos e u 8192#32 h x6)
        (k0_pay15 cw (k0_pay10 x6) (k0_pay13 lw pos e u 8192#32 h) (k0_pay14 lw pos e u 8192#32 h)) (k0_pay16 cw (k0_pay9 lw pos e u 8192#32 h) (k0_pay10 x6))
        (k0_pay17 cw (k0_pay9 lw pos e u 8192#32 h) (k0_pay10 x6)) (k0_pay18 cw (k0_pay9 lw pos e u 8192#32 h)))
      = lanes (stack (answers (k0_pay9 lw pos e u 8192#32 h) cw (k0_pay10 x6))) := rfl
  have eb : (k0_pay10 x6 : EReal) = x6 (ix2 0 0) := by pointwise [k0_pay10]
  have ec (v : FVec Ideal S8x8192 .f32) (s s' : Fin 8) (t t' : Fin 8192) (hs : s.val = s'.val) (ht : t.val = t'.val) : v (ix2 s t) = v (ix2 s' t') := by
    rw [Fin.ext hs, Fin.ext ht]
  rw [pay1_apply, e19, lanes_apply]
  refine (ec _ _ ⟨l % 8, by omega⟩ _ ⟨a * 16 + l / 8, by omega⟩ (by simp only; omega) (by simp only; omega)).trans ?_
  rw [stack_apply, answers_apply _ _ _ _ f g hz hc, eb]

end Cert.KernelIdeal.SpanValue
end
-- ==== Proof.KernelValue.lean ====
module

public import proofs.«01_k».proof.Proof.KernelRun
public import proofs.«01_k».proof.Proof.KernelOut

@[expose] public section

set_option maxRecDepth 16384

noncomputable section

open Idealize.ShloMosaic Idealize.ShloMosaic.TcCoe Idealize.SL.Sem

namespace Cert.KernelIdeal.SpanValue

open Cert.KernelIdeal Cert.KernelIdeal.Gen

/-- The wrapped token `t + w`. -/
def wrap (t w : ℕ) : Fin 8192 := ⟨(t + w) % 8192, by omega⟩

/-- The logit window: row `w` at position `t` is the logit of token `t + w`, wrapped. -/
theorem row0_apply (tw : FVec Ideal S1x256 .f32) (wi : FVec Ideal S256x256 .f32) (bi ws : FVec Ideal S1x256 .f32) (hid : FVec Ideal S8192x256 .f32)
    (w : Fin 8) (t : Fin 8192) :
    k0_pay3 tw wi bi ws hid (ix2 w t)
      = ∑ k : Fin 256, ((∑ j : Fin 256, tw (ix2 0 j) * wi (ix2 k j)) + bi (ix2 0 k)) * hid (ix2 (wrap t w) k) := by
  rw [pay3_eq, shifted_apply, pay2_eq]
  have h : extractStridedSlice S1x8200 ![0, 0] (wrapped (products (packed tw wi bi ws) hid)) slices_S8x8200_o0_0_S1x8200 (ix2 0 ⟨t + w, by omega⟩)
      = wrapped (products (packed tw wi bi ws) hid) (ix2 0 ⟨t + w, by omega⟩) := by
    generalize wrapped (products (packed tw wi bi ws) hid) = v
    pointwise
  refine h.trans ?_
  rw [wrapped_apply, products_apply]
  exact Finset.sum_congr rfl fun k _ => by rw [packed_zero]; rfl

/-- The score window: row `w` at position `t` is the score of token `t + w`, wrapped. -/
theorem row1_apply (tw : FVec Ideal S1x256 .f32) (wi : FVec Ideal S256x256 .f32) (bi ws : FVec Ideal S1x256 .f32) (hid : FVec Ideal S8192x256 .f32)
    (w : Fin 8) (t : Fin 8192) :
    k0_pay4 tw wi bi ws hid (ix2 w t) = ∑ k : Fin 256, ws (ix2 0 k) * hid (ix2 (wrap t w) k) := by
  rw [pay4_eq, shifted_apply, pay2_eq]
  have h : extractStridedSlice S1x8200 ![1, 0] (wrapped (products (packed tw wi bi ws) hid)) slices_S8x8200_o1_0_S1x8200 (ix2 0 ⟨t + w, by omega⟩)
      = wrapped (products (packed tw wi bi ws) hid) (ix2 1 ⟨t + w, by omega⟩) := by
    generalize wrapped (products (packed tw wi bi ws) hid) = v
    pointwise
  refine h.trans ?_
  rw [wrapped_apply, products_apply]
  exact Finset.sum_congr rfl fun k _ => by rw [packed_one]; rfl

/-- The masked logits of position `t`, by window position. -/
def maskedLogit (cu : IVec S9 32) (hid : FVec Ideal S8192x256 .f32) (tw : FVec Ideal S256 .f32) (wi : FVec Ideal S256x256 .f32) (bi : FVec Ideal S256 .f32) (t w : ℕ) : EReal :=
  Scalar.select (IntOp.cmpi .slt (BitVec.ofNat 32 w) (IntOp.subi (kernelEnd (fun j => cu (ix1 j)) (BitVec.ofNat 32 t)) (BitVec.ofNat 32 t)))
    (∑ k : Fin 256, ((∑ j : Fin 256, tw (ix1 j) * wi (ix2 k j)) + bi (ix1 k)) * hid (ix2 (wrap t w) k)) ⊥

/-- The score row of position `t`, by window position. -/
def tokenScore (hid : FVec Ideal S8192x256 .f32) (ws : FVec Ideal S256x1 .f32) (t w : ℕ) : EReal :=
  ∑ k : Fin 256, ws (ix2 k 0) * hid (ix2 (wrap t w) k)

/-- The output block at a line and lane, from the arguments: a softmax mean of token scores plus the bias. -/
theorem stored_apply (x0 : Vec Ideal S9 .i32) (hid : FVec Ideal S8192x256 .f32) (tw : FVec Ideal S256 .f32) (wi : FVec Ideal S256x256 .f32) (bi : FVec Ideal S256 .f32)
    (ws : FVec Ideal S256x1 .f32) (bs : FVec Ideal S1 .f32) (a : Fin 512) (l : Fin 128) :
    stored x0 hid (shapeCast S1x256 tw shapeCasts_S256_S1x256) wi (shapeCast S1x256 bi shapeCasts_S256_S1x256) (shapeCast S1x256 ws shapeCasts_S256x1_S1x256) (shapeCast S1x1 bs shapeCasts_S1_S1x1) (ix2 a l)
      = mean (l % 8 + 1) (maskedLogit x0 hid tw wi bi (a * 16 + l / 8)) (tokenScore hid ws (a * 16 + l / 8)) + bs (ix1 0) := by
  have e1 (v : FVec Ideal S256 .f32) (k : Fin 256) : shapeCast S1x256 v shapeCasts_S256_S1x256 (ix2 0 k) = v (ix1 k) := by pointwise
  have e2 (v : FVec Ideal S256x1 .f32) (k : Fin 256) : shapeCast S1x256 v shapeCasts_S256x1_S1x256 (ix2 0 k) = v (ix2 k 0) := by pointwise
  have e3 : shapeCast S1x1 bs shapeCasts_S1_S1x1 (ix2 0 0) = bs (ix1 0) := by pointwise
  rw [← e3]
  refine place_apply _ _ _ _ _ _ _ a l _ _ (fun w => ?_) fun w => ?_
  · refine (masked_apply _ x0 w _).trans ?_
    rw [row0_apply]
    simp only [e1]
    rfl
  · rw [row1_apply]
    simp only [e2]
    rfl

/-- The kernel's result at a flat position. -/
theorem result_apply (m : (ℓ : Loc nD τ sig) → Buf (Elt Ideal) ℓ) (c : Dev nD) (r : Fin 65536) :
    result m c (ix2 r 0)
      = mean (r % 8 + 1) (maskedLogit (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (r / 8))
          (tokenScore (m ((c.tc : Thread nD τ).loc main_arg0)) (m ((c.tc : Thread nD τ).loc main_arg5)) (r / 8))
        + (m ((c.tc : Thread nD τ).loc main_arg6) : FVec Ideal S1 .f32) (ix1 0) := by
  have h (v : FVec Ideal S512x128 .f32) : shapeCast S65536x1 v shapeCasts_S512x128_S65536x1 (ix2 r 0) = v (ix2 ⟨r / 128, by omega⟩ ⟨r % 128, by omega⟩) := by pointwise
  unfold result
  rw [h, stored_apply]
  have e1 : r.val / 128 * 16 + r.val % 128 / 8 = r.val / 8 := by omega
  have e2 : r.val % 128 % 8 = r.val % 8 := by omega
  simp only [e1, e2]

end Cert.KernelIdeal.SpanValue
end
-- ==== Proof.RefStages.lean ====
module

public import proofs.«01_k».proof.Defs
public import proofs.«01_k».proof.Proof.Gen.ReferenceIdeal.Run
public import Idealize.ShloMosaic.Lib.Pointwise
public import Idealize.ShloMosaic.Lib.ValueIdxCore
public import Idealize.ShloMosaic.Lib.Routing.Ops
public import Idealize.ShloMosaic.Lib.Routing.OpsSet

@[expose] public section

set_option maxRecDepth 16384

noncomputable section

open Idealize.ShloMosaic Idealize.ShloMosaic.TcCoe Idealize.SL.Sem

namespace Cert.ReferenceIdeal.SpanValue

open Cert.ReferenceIdeal Cert.ReferenceIdeal.Value Cert.ReferenceIdeal.Facts₀ Cert.ReferenceIdeal.Facts

/-- The query: the inner layer applied to the term weight. -/
def query (wi : FVec Ideal S256x256 .f32) (tw bi : FVec Ideal S256 .f32) : FVec Ideal S256 .f32 :=
  addf (Host.dotGeneral dot_S256x256_S256_S256_1_0_0_n_n_n none wi tw) bi

/-- The logit of every token. -/
def logits (hid : FVec Ideal S8192x256 .f32) (q : FVec Ideal S256 .f32) : FVec Ideal S8192 .f32 :=
  Host.dotGeneral dot_S8192x256_S256_S8192_1_0_0_n_n_n none hid q

/-- For every position, how many boundaries lie at or before it. -/
def counts (cu : IVec S9 32) : IVec S8192 32 :=
  Host.reduce IntOp.addi (extui 32 (cmpi .sle (broadcastInDim S8192x9 ![0, 1] bcast_S1x9_S8192x9_0_1 (broadcastInDim S1x9 ![1] bcast_S9_S1x9_1 cu)) (broadcastInDim S8192x9 ![0, 1] bcast_S8192x1_S8192x9_0_1 (broadcastInDim S8192x1 ![0] bcast_S8192_S8192x1_0 (iotaInDim S8192 32 0)))) natLt_1_32) (constantI S_ 32 0#32) reducesTo_S8192x9_S8192_d1 h_S_

/-- For every position, the number of the segment that ends next, as an index. -/
def segIdx (n : IVec S8192 32) : IVec S8192x1 32 :=
  let k := addi (subi n (broadcastInDim S8192 ![] bcast_S_S8192 (constantI S_ 32 1#32))) (broadcastInDim S8192 ![] bcast_S_S8192 (constantI S_ 32 1#32))
  broadcastInDim S8192x1 ![0] bcast_S8192_S8192x1_0 (select (cmpi .slt k (broadcastInDim S8192 ![] bcast_S_S8192 (constantI S_ 32 0#32))) (addi k (broadcastInDim S8192 ![] bcast_S_S8192 (constantI S_ 32 9#32))) k)

/-- For every position, where its segment ends. -/
def ends (cu : IVec S9 32) : IVec S8192 32 :=
  Host.gather gather_S9_S8192x1_S8192_n_0_n_n_0_1_1 cu (segIdx (counts cu))

/-- Whether a window position lies within the span. -/
def within (e : IVec S8192 32) : IVec S8192x8x8 1 :=
  cmpi .slt (broadcastInDim S8192x8x8 ![0, 1, 2] bcast_S1x1x8_S8192x8x8_0_1_2 (broadcastInDim S1x1x8 ![2] bcast_S8_S1x1x8_2 (iotaInDim S8 32 0))) (broadcastInDim S8192x8x8 ![0, 1, 2] bcast_S8192x8x1_S8192x8x8_0_1_2 (broadcastInDim S8192x8x1 ![0, 1] bcast_S8192x8_S8192x8x1_0_1 (minsi (broadcastInDim S8192x8 ![0, 1] bcast_S1x8_S8192x8_0_1 (addi (broadcastInDim S1x8 ![1] bcast_S8_S1x8_1 (iotaInDim S8 32 0)) (broadcastInDim S1x8 ![] bcast_S_S1x8 (constantI S_ 32 1#32)))) (broadcastInDim S8192x8 ![0, 1] bcast_S8192x1_S8192x8_0_1 (subi (broadcastInDim S8192x1 ![0] bcast_S8192_S8192x1_0 e) (broadcastInDim S8192x1 ![0] bcast_S8192_S8192x1_0 (iotaInDim S8192 32 0)))))))

/-- The window positions, clipped to the last token, as indices. -/
def windowIdx : IVec S8192x8x1 32 :=
  let i := minsi (addi (broadcastInDim S8192x8 ![0, 1] bcast_S8192x1_S8192x8_0_1 (broadcastInDim S8192x1 ![0] bcast_S8192_S8192x1_0 (iotaInDim S8192 32 0))) (broadcastInDim S8192x8 ![0, 1] bcast_S1x8_S8192x8_0_1 (broadcastInDim S1x8 ![1] bcast_S8_S1x8_1 (iotaInDim S8 32 0)))) (broadcastInDim S8192x8 ![] bcast_S_S8192x8 (constantI S_ 32 8191#32))
  broadcastInDim S8192x8x1 ![0, 1] bcast_S8192x8_S8192x8x1_0_1 (select (cmpi .slt i (broadcastInDim S8192x8 ![] bcast_S_S8192x8 (constantI S_ 32 0#32))) (addi i (broadcastInDim S8192x8 ![] bcast_S_S8192x8 (constantI S_ 32 8192#32))) i)

/-- The masked logits of every span. -/
def masked (k : IVec S8192x8x8 1) (l : FVec Ideal S8192 .f32) (i : IVec S8192x8x1 32) : FVec Ideal S8192x8x8 .f32 :=
  select k (broadcastInDim S8192x8x8 ![0, 1, 2] bcast_S8192x1x8_S8192x8x8_0_1_2 (broadcastInDim S8192x1x8 ![0, 2] bcast_S8192x8_S8192x1x8_0_2 (Host.gather gather_S8192_S8192x8x1_S8192x8_n_0_n_n_0_2_1 l i))) (broadcastInDim S8192x8x8 ![] bcast_S_S8192x8x8 (id (constant S_ .f32 0xFF800000#32)))

/-- The exponentials of the masked logits less their greatest. -/
def exps (z : FVec Ideal S8192x8x8 .f32) : FVec Ideal S8192x8x8 .f32 :=
  Host.exp (subf z (broadcastInDim S8192x8x8 ![0, 1, 2] bcast_S8192x8x1_S8192x8x8_0_1_2 (broadcastInDim S8192x8x1 ![0, 1] bcast_S8192x8_S8192x8x1_0_1 (maximumf (broadcastInDim S8192x8 ![] bcast_S_S8192x8 (constant S_ .f32 0xFF800000#32)) (Host.reduce FloatOps.maximumf z (constant S_ .f32 0xFF800000#32) reducesTo_S8192x8x8_S8192x8_d2 h_S_)))))

/-- The attention of every span. -/
def attention (e : FVec Ideal S8192x8x8 .f32) : FVec Ideal S8192x8x8 .f32 :=
  Host.divf e (broadcastInDim S8192x8x8 ![0, 1, 2] bcast_S8192x8x1_S8192x8x8_0_1_2 (broadcastInDim S8192x8x1 ![0, 1] bcast_S8192x8_S8192x8x1_0_1 (Host.reduceAdd e (constant S_ .f32 0x00000000#32) reducesTo_S8192x8x8_S8192x8_d2 h_S_)))

/-- The scores from the attention. -/
def scores (p : FVec Ideal S8192x8x8 .f32) (hid : FVec Ideal S8192x256 .f32) (i : IVec S8192x8x1 32) (ws : FVec Ideal S256x1 .f32) (bs : FVec Ideal S1 .f32) : FVec Ideal S65536x1 .f32 :=
  addf (Host.dotGeneral dot_S65536x256_S256x1_S65536x1_1_0_0_1_n_n none (shapeCast S65536x256 (Host.dotGeneral dot_S8192x8x8_S8192x8x256_S8192x8x256_2_1_1_2_0_0 none p (Host.gather gather_S8192x256_S8192x8x1_S8192x8x256_2_0_n_n_0_2_1256 hid i)) shapeCasts_S8192x8x256_S65536x256) ws) (broadcastInDim S65536x1 ![0, 1] bcast_S1x1_S65536x1_0_1 (broadcastInDim S1x1 ![1] bcast_S1_S1x1_1 bs))

/-- The reference's result on device `c`, stage by stage. -/
theorem result_eq (m : (ℓ : Loc nD τ sig) → Buf (Elt Ideal) ℓ) (c : Dev nD) :
    (res_out0 m c : FVec Ideal S65536x1 .f32)
      = scores (attention (exps (masked (within (ends (m ((c.tc : Thread nD τ).loc main_arg1))))
            (logits (m ((c.tc : Thread nD τ).loc main_arg0)) (query (m ((c.tc : Thread nD τ).loc main_arg3)) (m ((c.tc : Thread nD τ).loc main_arg2)) (m ((c.tc : Thread nD τ).loc main_arg4)))) windowIdx)))
          (m ((c.tc : Thread nD τ).loc main_arg0)) windowIdx (m ((c.tc : Thread nD τ).loc main_arg5)) (m ((c.tc : Thread nD τ).loc main_arg6)) := by
  unfold res_out0 res_main_v76
  rfl

end Cert.ReferenceIdeal.SpanValue
end
-- ==== Proof.Bounds.lean ====
module

public import proofs.«01_k».proof.Proof.KernelOut
public import Idealize.ShloMosaic.Lib.WordCmp

@[expose] public section

set_option maxRecDepth 16384

noncomputable section

open Idealize.ShloMosaic Idealize.ShloMosaic.WordCmp

namespace Cert.Spans

open Cert.KernelIdeal.SpanValue (cand kernelEnd)

/-- The boundaries rise, from zero or below to the number of positions. -/
def Rising (c : Fin 9 → BitVec 32) : Prop :=
  (∀ j : Fin 8, (c j.castSucc).toInt ≤ (c j.succ).toInt) ∧ (c 0).toInt ≤ 0 ∧ (c 8).toInt = 8192

/-- How many boundaries lie at or before position `t`. -/
def passed (c : Fin 9 → BitVec 32) (t : ℕ) : ℕ := Nat.count (fun q => (c (Fin.ofNat 9 q)).toInt ≤ t) 9

/-- The first boundary past position `t`. -/
def segEnd (c : Fin 9 → BitVec 32) (t : ℕ) : BitVec 32 := c (Fin.ofNat 9 (passed c t))

/-- The signed value of the lesser of two words is the lesser of their signed values. -/
theorem toInt_minsi (a b : BitVec 32) : (IntOp.minsi a b).toInt = min a.toInt b.toInt := by
  unfold IntOp.minsi
  split_ifs with h
  · rw [BitVec.slt_iff_toInt_lt] at h; omega
  · rw [BitVec.slt_iff_toInt_lt] at h; omega

/-- The signed value of the word of a small number is that number. -/
theorem toInt_pos (t : ℕ) (ht : t < 8192 + 8192) : (BitVec.ofNat 32 t).toInt = t := by
  have h : (BitVec.ofNat 32 t).toNat = t := by rw [BitVec.toNat_ofNat]; omega
  rw [toInt_eq_toNat_of_lt_half (by rw [h]; omega), h]

/-- A choice by a signed comparison of words is the choice by the comparison of their signed values. -/
theorem select_slt {α : Type} (x y : BitVec 32) (a b : α) :
    Scalar.select (IntOp.cmpi .slt x y) a b = if x.toInt < y.toInt then a else b := by
  rw [cmpi_slt_eq]
  unfold Scalar.select
  by_cases h : x.toInt < y.toInt <;> simp [h]

/-- The signed value of a candidate end: the boundary if it lies past position `t`, else the number of positions. -/
theorem toInt_cand (t : ℕ) (ht : t < 8192) (c : BitVec 32) :
    (cand (BitVec.ofNat 32 t) c).toInt = if (t : ℤ) < c.toInt then c.toInt else 8192 := by
  unfold cand
  rw [cmpi_sgt_eq, toInt_pos t (by omega)]
  unfold Scalar.select
  by_cases h : (t : ℤ) < c.toInt <;> simp [h]

/-- With rising boundaries, counting the boundaries at or before a position and taking the least boundary past it
    name the same end; there is at least one position left before that end, and it is not past the last position. -/
theorem end_eq (c : Fin 9 → BitVec 32) (hc : Rising c) (t : ℕ) (ht : t < 8192) :
    passed c t ≤ 8 ∧ kernelEnd c (BitVec.ofNat 32 t) = segEnd c t ∧ (t : ℤ) < (segEnd c t).toInt ∧ (segEnd c t).toInt ≤ 8192 := by
  obtain ⟨hs, h0, h8⟩ := hc
  have s0 : (c 0).toInt ≤ (c 1).toInt := hs 0
  have s1 : (c 1).toInt ≤ (c 2).toInt := hs 1
  have s2 : (c 2).toInt ≤ (c 3).toInt := hs 2
  have s3 : (c 3).toInt ≤ (c 4).toInt := hs 3
  have s4 : (c 4).toInt ≤ (c 5).toInt := hs 4
  have s5 : (c 5).toInt ≤ (c 6).toInt := hs 5
  have s6 : (c 6).toInt ≤ (c 7).toInt := hs 6
  have s7 : (c 7).toInt ≤ (c 8).toInt := hs 7
  have hn : passed c t = (if (c 0).toInt ≤ t then 1 else 0) + (if (c 1).toInt ≤ t then 1 else 0) + (if (c 2).toInt ≤ t then 1 else 0)
      + (if (c 3).toInt ≤ t then 1 else 0) + (if (c 4).toInt ≤ t then 1 else 0) + (if (c 5).toInt ≤ t then 1 else 0)
      + (if (c 6).toInt ≤ t then 1 else 0) + (if (c 7).toInt ≤ t then 1 else 0) + (if (c 8).toInt ≤ t then 1 else 0) := by
    simp only [passed, Nat.count_succ, Nat.count_zero, Nat.zero_add]
    rfl
  have hk : (kernelEnd c (BitVec.ofNat 32 t)).toInt = min (min (min (min (min (min (min (min (8192#32).toInt
      (if (t : ℤ) < (c 1).toInt then (c 1).toInt else 8192)) (if (t : ℤ) < (c 2).toInt then (c 2).toInt else 8192))
      (if (t : ℤ) < (c 3).toInt then (c 3).toInt else 8192)) (if (t : ℤ) < (c 4).toInt then (c 4).toInt else 8192))
      (if (t : ℤ) < (c 5).toInt then (c 5).toInt else 8192)) (if (t : ℤ) < (c 6).toInt then (c 6).toInt else 8192))
      (if (t : ℤ) < (c 7).toInt then (c 7).toInt else 8192)) (if (t : ℤ) < (c 8).toInt then (c 8).toInt else 8192) := by
    simp only [kernelEnd, toInt_minsi, toInt_cand t ht]
  have key (n : Fin 9) (e : passed c t = n) (k : (kernelEnd c (BitVec.ofNat 32 t)).toInt = (c n).toInt) (l : (t : ℤ) < (c n).toInt) (u : (c n).toInt ≤ 8192) :
      passed c t ≤ 8 ∧ kernelEnd c (BitVec.ofNat 32 t) = segEnd c t ∧ (t : ℤ) < (segEnd c t).toInt ∧ (segEnd c t).toInt ≤ 8192 := by
    have ee : segEnd c t = c n := by unfold segEnd; rw [e]; congr 1; exact Fin.ext (Nat.mod_eq_of_lt n.2)
    rw [ee, e]
    exact ⟨by omega, BitVec.eq_of_toInt_eq k, l, u⟩
  have l8 : (8192#32).toInt = 8192 := by decide
  rw [l8] at hk
  rcases (by omega : (t : ℤ) < (c 1).toInt ∨ ((c 1).toInt ≤ t ∧ (t : ℤ) < (c 2).toInt) ∨ ((c 2).toInt ≤ t ∧ (t : ℤ) < (c 3).toInt)
      ∨ ((c 3).toInt ≤ t ∧ (t : ℤ) < (c 4).toInt) ∨ ((c 4).toInt ≤ t ∧ (t : ℤ) < (c 5).toInt) ∨ ((c 5).toInt ≤ t ∧ (t : ℤ) < (c 6).toInt)
      ∨ ((c 6).toInt ≤ t ∧ (t : ℤ) < (c 7).toInt) ∨ ((c 7).toInt ≤ t ∧ (t : ℤ) < (c 8).toInt)) with h | h | h | h | h | h | h | h
  all_goals
    simp (disch := omega) only [if_pos, if_neg] at hn hk
    exact key _ (hn.trans (by first | exact (rfl : _ = ((1 : Fin 9) : ℕ)) | exact (rfl : _ = ((2 : Fin 9) : ℕ)) | exact (rfl : _ = ((3 : Fin 9) : ℕ)) | exact (rfl : _ = ((4 : Fin 9) : ℕ)) | exact (rfl : _ = ((5 : Fin 9) : ℕ)) | exact (rfl : _ = ((6 : Fin 9) : ℕ)) | exact (rfl : _ = ((7 : Fin 9) : ℕ)) | exact (rfl : _ = ((8 : Fin 9) : ℕ)))) (by rw [hk]; omega) (by omega) (by omega)

/-- The count of passed boundaries, less one and plus one and wrapped at zero, is itself. -/
theorem seg_word (n : ℕ) (hn : n ≤ 8) :
    Scalar.select (IntOp.cmpi .slt (IntOp.addi (IntOp.subi (BitVec.ofNat 32 n) 1#32) 1#32) 0#32)
      (IntOp.addi (IntOp.addi (IntOp.subi (BitVec.ofNat 32 n) 1#32) 1#32) 9#32) (IntOp.addi (IntOp.subi (BitVec.ofNat 32 n) 1#32) 1#32)
      = BitVec.ofNat 32 n := by
  obtain ⟨k, rfl⟩ : ∃ k : Fin 9, n = k := ⟨⟨n, by omega⟩, rfl⟩
  revert k
  decide

/-- A window position clipped to the last position, as an index that never wraps. -/
theorem clip_word (t w : ℕ) (ht : t < 8192) (hw : w < 8) :
    (Scalar.select (IntOp.cmpi .slt (IntOp.minsi (IntOp.addi (BitVec.ofNat 32 t) (BitVec.ofNat 32 w)) 8191#32) 0#32)
      (IntOp.addi (IntOp.minsi (IntOp.addi (BitVec.ofNat 32 t) (BitVec.ofNat 32 w)) 8191#32) 8192#32)
      (IntOp.minsi (IntOp.addi (BitVec.ofNat 32 t) (BitVec.ofNat 32 w)) 8191#32)).toInt = min (t + w : ℕ) 8191 := by
  have h1 : (IntOp.minsi (IntOp.addi (BitVec.ofNat 32 t) (BitVec.ofNat 32 w)) 8191#32).toInt = min (t + w : ℕ) 8191 := by
    rw [toInt_minsi, addi_ofNat, toInt_pos _ (by omega), show (8191#32).toInt = 8191 from rfl]
    omega
  rw [select_slt, h1, if_neg (by rw [show (0#32).toInt = 0 from rfl]; omega), h1]

/-- How many positions of the segment are left. -/
theorem toInt_left (e : BitVec 32) (t : ℕ) (ht : t < 8192) (h : (t : ℤ) < e.toInt) (h' : e.toInt ≤ 8192) :
    (IntOp.subi e (BitVec.ofNat 32 t)).toInt = e.toInt - t := by
  unfold IntOp.subi
  rw [BitVec.toInt_sub, toInt_pos t (by omega)]
  norm_num [Int.bmod]
  omega

/-- The kernel's mask: window position `w` lies before the end of the segment. -/
theorem kernel_mask {α : Type} (e : BitVec 32) (t w : ℕ) (ht : t < 8192) (hw : w < 8) (h : (t : ℤ) < e.toInt) (h' : e.toInt ≤ 8192) (a b : α) :
    Scalar.select (IntOp.cmpi .slt (BitVec.ofNat 32 w) (IntOp.subi e (BitVec.ofNat 32 t))) a b
      = if w < (e.toInt - t).toNat then a else b := by
  rw [select_slt, toInt_left e t ht h h', toInt_pos w (by omega)]
  exact if_congr (by omega) rfl rfl

/-- The reference's mask: window position `w` lies within the span and before the end of the segment. -/
theorem reference_mask {α : Type} (e : BitVec 32) (t s w : ℕ) (ht : t < 8192) (hs : s < 8) (hw : w < 8) (h : (t : ℤ) < e.toInt) (h' : e.toInt ≤ 8192) (a b : α) :
    Scalar.select (IntOp.cmpi .slt (BitVec.ofNat 32 w) (IntOp.minsi (IntOp.addi (BitVec.ofNat 32 s) 1#32) (IntOp.subi e (BitVec.ofNat 32 t)))) a b
      = if w < s + 1 ∧ w < (e.toInt - t).toNat then a else b := by
  rw [select_slt, toInt_minsi, toInt_left e t ht h h', toInt_pos w (by omega), show IntOp.addi (BitVec.ofNat 32 s) 1#32 = BitVec.ofNat 32 (s + 1) from addi_ofNat s 1,
    toInt_pos (s + 1) (by omega)]
  exact if_congr (by omega) rfl rfl

end Cert.Spans
end
-- ==== Proof.RefValue.lean ====
module

public import proofs.«01_k».proof.Proof.RefStages
public import proofs.«01_k».proof.Proof.Bounds

@[expose] public section

set_option maxRecDepth 16384

noncomputable section

open Idealize.ShloMosaic Idealize.ShloMosaic.TcCoe Idealize.SL.Sem

namespace Cert.ReferenceIdeal.SpanValue

open Cert.ReferenceIdeal Cert.ReferenceIdeal.Facts₀ Cert.ReferenceIdeal.Facts Cert.Spans

/-- The query, entry by entry. -/
theorem query_apply (wi : FVec Ideal S256x256 .f32) (tw bi : FVec Ideal S256 .f32) (k : Fin 256) :
    query wi tw bi (ix1 k) = (∑ j : Fin 256, wi (ix2 k j) * tw (ix1 j)) + bi (ix1 k) := by
  unfold query
  pointwise

/-- The logit of a token is the inner product of its hidden state with the query. -/
theorem logits_apply (hid : FVec Ideal S8192x256 .f32) (q : FVec Ideal S256 .f32) (t : Fin 8192) :
    logits hid q (ix1 t) = ∑ k : Fin 256, hid (ix2 t k) * q (ix1 k) := by
  unfold logits
  pointwise

/-- The counts are the numbers of boundaries at or before each position. -/
theorem counts_apply (cu : IVec S9 32) (t : Fin 8192) :
    counts cu (ix1 t) = BitVec.ofNat 32 (passed (fun j => cu (ix1 j)) t) := by
  unfold counts passed
  refine Routing.reduce_count (by norm_num) _ _ _ _ t (fun q => (cu (ix1 (Fin.ofNat 9 q))).toInt ≤ (t : ℕ)) fun q => ?_
  have e : cmpi .sle (broadcastInDim S8192x9 ![0, 1] bcast_S1x9_S8192x9_0_1 (broadcastInDim S1x9 ![1] bcast_S9_S1x9_1 cu)) (broadcastInDim S8192x9 ![0, 1] bcast_S8192x1_S8192x9_0_1 (broadcastInDim S8192x1 ![0] bcast_S8192_S8192x1_0 (iotaInDim S8192 32 0))) (ix2 t q)
      = IntOp.cmpi .sle (cu (ix1 q)) (BitVec.ofNat 32 t) := by pointwise
  refine (Eq.congr_left e).trans ?_
  rw [WordCmp.cmpi_sle_eq, toInt_pos t (by omega)]
  have eq : Fin.ofNat 9 (q : ℕ) = q := Fin.ext (Nat.mod_eq_of_lt q.2)
  rw [eq]
  by_cases h : (cu (ix1 q)).toInt ≤ (t : ℕ) <;> simp [h]

/-- The segment index at a position, from the count there. -/
theorem segIdx_apply (n : IVec S8192 32) (t : Fin 8192) :
    segIdx n (ix2 t 0) = Scalar.select (IntOp.cmpi .slt (IntOp.addi (IntOp.subi (n (ix1 t)) 1#32) 1#32) 0#32)
      (IntOp.addi (IntOp.addi (IntOp.subi (n (ix1 t)) 1#32) 1#32) 9#32) (IntOp.addi (IntOp.subi (n (ix1 t)) 1#32) 1#32) := by
  unfold segIdx
  pointwise

/-- The reference's segment end: the boundary whose number is the count of boundaries passed. -/
theorem ends_apply (cu : IVec S9 32) (t : Fin 8192) (h : passed (fun j => cu (ix1 j)) t ≤ 8) :
    ends cu (ix1 t) = segEnd (fun j => cu (ix1 j)) t := by
  unfold ends segEnd
  refine Routing.gather_take1 gather_S9_S8192x1_S8192_n_0_n_n_0_1_1 rfl rfl rfl rfl cu _ t _ ?_ (by norm_num)
  refine (segIdx_apply (counts cu) t).trans ?_
  rw [counts_apply, seg_word _ h]
  exact congrArg _ (Nat.mod_eq_of_lt (by omega)).symm

/-- The span mask at an index: the window position against the lesser of the span length and what is left of the segment. -/
theorem within_apply (e : IVec S8192 32) (t : Fin 8192) (s w : Fin 8) :
    within e (ix3 t s w) = IntOp.cmpi .slt (BitVec.ofNat 32 w) (IntOp.minsi (IntOp.addi (BitVec.ofNat 32 s) 1#32) (IntOp.subi (e (ix1 t)) (BitVec.ofNat 32 t))) := by
  unfold within
  pointwise

/-- The window index at a position, before it is read as a number. -/
theorem windowIdx_apply (t : Fin 8192) (w : Fin 8) :
    windowIdx (ix3 t w 0) = Scalar.select (IntOp.cmpi .slt (IntOp.minsi (IntOp.addi (BitVec.ofNat 32 t) (BitVec.ofNat 32 w)) 8191#32) 0#32)
      (IntOp.addi (IntOp.minsi (IntOp.addi (BitVec.ofNat 32 t) (BitVec.ofNat 32 w)) 8191#32) 8192#32)
      (IntOp.minsi (IntOp.addi (BitVec.ofNat 32 t) (BitVec.ofNat 32 w)) 8191#32) := by
  unfold windowIdx
  pointwise

/-- The token at window position `w` of position `t`, clipped to the last token. -/
def clip (t w : ℕ) : Fin 8192 := ⟨min (t + w) 8191, by omega⟩

/-- Read as a clamped number, the window index is the clipped token. -/
theorem windowIdx_clip (t : Fin 8192) (w : Fin 8) : min (windowIdx (ix3 t w 0)).toInt.toNat 8191 = clip t w := by
  rw [windowIdx_apply, clip_word t w t.2 w.2]
  show _ = min _ _
  omega

/-- The gathered logits. -/
theorem taken_apply (l : FVec Ideal S8192 .f32) (t : Fin 8192) (w : Fin 8) :
    Host.gather gather_S8192_S8192x8x1_S8192x8_n_0_n_n_0_2_1 l windowIdx (ix2 t w) = l (ix1 (clip t w)) := by
  refine (ValueIdx.gather_take_apply (by norm_num) gather_S8192_S8192x8x1_S8192x8_n_0_n_n_0_2_1_wf l windowIdx (ix2 t w)).trans ?_
  refine congrArg (fun u => l (ix1 u)) (Fin.ext ?_)
  have e : ValueIdx.takeIdx (ix2 t w) = ix3 t w 0 := by
    funext b
    match b with
    | ⟨0, _⟩ => rfl
    | ⟨1, _⟩ => rfl
    | ⟨2, _⟩ => rfl
  show min (windowIdx (ValueIdx.takeIdx (ix2 t w))).toInt.toNat 8191 = _
  rw [e, windowIdx_clip]

/-- The gathered rows of hidden states. -/
theorem rows_apply (x : FVec Ideal S8192x256 .f32) (t : Fin 8192) (w : Fin 8) (k : Fin 256) :
    Host.gather gather_S8192x256_S8192x8x1_S8192x8x256_2_0_n_n_0_2_1256 x windowIdx (ix3 t w k) = x (ix2 (clip t w) k) := by
  set d := gather_S8192x256_S8192x8x1_S8192x8x256_2_0_n_n_0_2_1256 with hd
  unfold Host.gather
  refine congrArg x (funext fun a => Fin.ext ?_)
  show d.start (ix3 t w k) windowIdx a + d.batchCoord (ix3 t w k) a + d.offCoord (ix3 t w k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ d.startIndexMap from List.mem_singleton.mpr rfl)]
    have hsi : d.siIdx (ix3 t w k) ⟨List.idxOf (⟨0, by decide⟩ : Fin 2) d.startIndexMap,
        List.idxOf_lt_length_iff.2 (List.mem_singleton.mpr rfl)⟩ = ix3 t w 0 := by
      funext b; refine Fin.ext ?_
      match b with
      | ⟨0, _⟩ => rfl
      | ⟨1, _⟩ => rfl
      | ⟨2, _⟩ => rfl
    rw [hsi]
    exact windowIdx_clip t w
  | ⟨1, _⟩ =>
    unfold GatherDims.start
    rw [dif_neg (show ¬ (⟨1, by decide⟩ : Fin 2) ∈ d.startIndexMap from by decide), Nat.zero_add]
    rfl

/-- The literal the reference masks with is the least value. -/
theorem low : Ideal.ofBits .f32 0xFF800000#32 = (⊥ : EReal) := by
  simp [Ideal.ofBits, Ideal.ieee]

/-- The masked logits at an index. -/
theorem masked_apply (k : IVec S8192x8x8 1) (l : FVec Ideal S8192 .f32) (t : Fin 8192) (s w : Fin 8) :
    masked k l windowIdx (ix3 t s w) = Scalar.select (k (ix3 t s w)) (l (ix1 (clip t w))) ⊥ := by
  have h : masked k l windowIdx (ix3 t s w) = Scalar.select (k (ix3 t s w))
      (Host.gather gather_S8192_S8192x8x1_S8192x8_n_0_n_n_0_2_1 l windowIdx (ix2 t w)) (Ideal.ofBits .f32 0xFF800000#32) := by
    unfold masked
    pointwise
    rfl
  rw [h, taken_apply, low]

/-- The exponentials at an index: of the masked logit less the greatest of its span. -/
theorem exps_apply (z : FVec Ideal S8192x8x8 .f32) (t : Fin 8192) (s w : Fin 8) :
    exps z (ix3 t s w) = Ideal.exp (z (ix3 t s w) - Finset.univ.sup fun v : Fin 8 => z (ix3 t s v)) := by
  unfold exps
  pointwise
  rw [low, bot_sup_eq]
  rfl

/-- The attention at an index: the exponential over the sum of its span. -/
theorem attention_apply (e : FVec Ideal S8192x8x8 .f32) (t : Fin 8192) (s w : Fin 8) :
    attention e (ix3 t s w) = Ideal.div (e (ix3 t s w)) (∑ v : Fin 8, e (ix3 t s v)) := by
  unfold attention
  pointwise

/-- The score at a flat position: the attention-weighted hidden state, times the score weights, plus the bias. -/
theorem scores_apply (p : FVec Ideal S8192x8x8 .f32) (hid : FVec Ideal S8192x256 .f32) (ws : FVec Ideal S256x1 .f32) (bs : FVec Ideal S1 .f32) (r : Fin 65536) :
    scores p hid windowIdx ws bs (ix2 r 0)
      = (∑ k : Fin 256, (∑ w : Fin 8, p (ix3 (⟨r / 8, by omega⟩ : Fin 8192) (⟨r % 8, by omega⟩ : Fin 8) w) * hid (ix2 (clip (r / 8) w) k)) * ws (ix2 k 0)) + bs (ix1 0) := by
  simp only [← rows_apply hid ⟨r / 8, by omega⟩]
  unfold scores
  generalize Host.gather gather_S8192x256_S8192x8x1_S8192x8x256_2_0_n_n_0_2_1256 hid windowIdx = h
  pointwise

end Cert.ReferenceIdeal.SpanValue
end
-- ==== Proof.Maths.lean ====
module

public import proofs.«01_k».proof.Proof.KernelOut

@[expose] public section

noncomputable section

open Idealize.ShloMosaic

namespace Cert.Spans

open Cert.KernelIdeal.SpanValue (mean)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The softmax mean of a span, taken over the scores of the tokens (left) and taken over the hidden states and then
    scored (right). `n` is the length of the span, `R` how many positions of the segment are left, `a` the logits,
    `h` and `h'` the hidden states read past the last token in two ways, `u` the score weights. -/
theorem mean_eq (n R : ℕ) (hn : 1 ≤ n) (hn8 : n ≤ 8) (hR : 1 ≤ R) (a a' : ℕ → ℝ) (h h' : ℕ → Fin 256 → ℝ) (u : Fin 256 → ℝ)
    (ha : ∀ w < 8, w < R → a' w = a w) (hh : ∀ w < 8, w < R → h' w = h w) :
    mean n (fun w => if w < R then (a' w : EReal) else ⊥) (fun w => ∑ k : Fin 256, (u k : EReal) * (h' w k : EReal))
      = ∑ k : Fin 256, (∑ w : Fin 8,
          Ideal.div (Ideal.exp ((if (w : ℕ) < n ∧ (w : ℕ) < R then (a w : EReal) else ⊥) - Finset.univ.sup fun v : Fin 8 => if (v : ℕ) < n ∧ (v : ℕ) < R then (a v : EReal) else ⊥))
            (∑ v : Fin 8, Ideal.exp ((if (v : ℕ) < n ∧ (v : ℕ) < R then (a v : EReal) else ⊥) - Finset.univ.sup fun v : Fin 8 => if (v : ℕ) < n ∧ (v : ℕ) < R then (a v : EReal) else ⊥))
          * (h w k : EReal)) * (u k : EReal) := by
  set f : ℕ → EReal := fun w => if w < R then (a' w : EReal) else ⊥ with hf
  set z : Fin 8 → EReal := fun w => if (w : ℕ) < n ∧ (w : ℕ) < R then (a w : EReal) else ⊥ with hz
  -- the two maxima are one real number
  have hsup : Finset.univ.sup z = (Finset.range n).sup f := by
    apply le_antisymm
    · refine Finset.sup_le fun w _ => ?_
      by_cases c : (w : ℕ) < n ∧ (w : ℕ) < R
      · refine le_trans (le_of_eq ?_) (Finset.le_sup (f := f) (Finset.mem_range.2 c.1))
        simp only [hz, hf, if_pos c, if_pos c.2, ha w w.2 c.2]
      · simp only [hz, if_neg c, bot_le]
    · refine Finset.sup_le fun w hw => ?_
      have hw' := Finset.mem_range.1 hw
      by_cases c : w < R
      · refine le_trans (le_of_eq ?_) (Finset.le_sup (f := z) (Finset.mem_univ (⟨w, by omega⟩ : Fin 8)))
        simp only [hz, hf, if_pos c, if_pos (And.intro hw' c), ha w (by omega) c]
      · simp only [hf, if_neg c, bot_le]
  obtain ⟨M, hM⟩ : ∃ M : ℝ, (Finset.range n).sup f = (M : EReal) := by
    obtain ⟨i, hi, e⟩ := Finset.exists_mem_eq_sup (Finset.range n) ⟨0, Finset.mem_range.2 (by omega)⟩ f
    have h0 : f 0 ≤ f i := e ▸ Finset.le_sup (Finset.mem_range.2 (by omega))
    by_cases c : i < R
    · exact ⟨a' i, by rw [e]; simp only [hf, if_pos c]⟩
    · simp only [hf, if_neg c, if_pos (show 0 < R by omega), le_bot_iff] at h0
      exact absurd h0 (EReal.coe_ne_bot _)
  rw [hsup, hM]
  -- the exponentials
  set E : ℕ → ℝ := fun w => if w < R then Real.exp (a' w - M) else 0 with hE
  set E' : Fin 8 → ℝ := fun w => if (w : ℕ) < n then E w else 0 with hE'
  have ef (w : ℕ) : Ideal.exp (f w - (M : EReal)) = (E w : EReal) := by
    by_cases c : w < R
    · simp only [hf, hE, if_pos c]; rfl
    · simp only [hf, hE, if_neg c]; rfl
  have ez (w : Fin 8) : Ideal.exp ((if (w : ℕ) < n ∧ (w : ℕ) < R then (a w : EReal) else ⊥) - (M : EReal)) = (E' w : EReal) := by
    by_cases c : (w : ℕ) < n ∧ (w : ℕ) < R
    · simp only [hE, hE', if_pos c, if_pos c.1, if_pos c.2, ha w w.2 c.2]; rfl
    · have : E' w = 0 := by
        simp only [hE, hE']
        split_ifs with c1 c2
        · exact absurd ⟨c1, c2⟩ c
        · rfl
        · rfl
      rw [this]
      simp only [if_neg c]; rfl
  have split (F : ℕ → ℝ) : ∑ w : Fin 8, (if (w : ℕ) < n then F w else 0) = ∑ w ∈ Finset.range n, F w := by
    rw [Fin.sum_univ_eq_sum_range (fun w => if w < n then F w else 0) 8, ← Finset.sum_filter]
    refine Finset.sum_congr (Finset.ext fun w => ?_) fun _ _ => rfl
    simp only [Finset.mem_filter, Finset.mem_range]
    omega
  have hD : ∑ w : Fin 8, E' w = ∑ w ∈ Finset.range n, E w := split E
  have pos : 0 < ∑ w ∈ Finset.range n, E w := by
    refine Finset.sum_pos' (fun w _ => ?_) ⟨0, Finset.mem_range.2 (by omega), ?_⟩
    · simp only [hE]; split_ifs
      · exact (Real.exp_pos _).le
      · exact le_rfl
    · simp only [hE, if_pos (show 0 < R by omega)]
      exact Real.exp_pos _
  unfold mean
  rw [hM]
  simp only [ef, ez, ← EReal.coe_mul, ← coe_sum, hD]
  set D := ∑ w ∈ Finset.range n, E w
  simp only [Ideal.div_coe pos.ne', ← EReal.coe_mul, ← coe_sum]
  rw [EReal.coe_eq_coe_iff]
  simp only [Finset.sum_mul, Finset.mul_sum]
  rw [Finset.sum_comm]
  refine Finset.sum_congr rfl fun k _ => ?_
  rw [← split fun w => E w * (u k * h' w k) * (1 / D)]
  refine Finset.sum_congr rfl fun w _ => ?_
  simp only [hE', hE]
  split_ifs with c1 c2
  · rw [hh w w.2 c2]; ring
  · ring
  · ring

end Cert.Spans
end
-- ==== Proof.Pre.lean ====
module

public import proofs.«01_k».proof.Defs
public import proofs.«01_k».proof.Proof.Bounds
public import Idealize.ShloMosaic.Lib.ReduceAll
public import Idealize.ShloMosaic.Lib.Pointwise

@[expose] public section

set_option maxRecDepth 16384

noncomputable section

open Idealize.ShloMosaic

namespace Cert.Spans

open Cert.Pre_finite_ragged Cert.Pre_finite_ragged.Facts

/-- The shape relations of the printed precondition hold. -/
instance preFacts : Cert.Pre_finite_ragged.Facts where
  bcast_S_S8192x256 := by decide
  reducesTo_S8192x256_S_d0_1 := by decide
  h_S_ := by decide
  bcast_S_S256 := by decide
  reducesTo_S256_S_d0 := by decide
  bcast_S_S256x256 := by decide
  reducesTo_S256x256_S_d0_1 := by decide
  bcast_S_S256x1 := by decide
  reducesTo_S256x1_S_d0_1 := by decide
  slices_S9_S8_0 := by decide
  slices_S9_S8_1 := by decide
  reducesTo_S8_S_d0 := by decide
  slices_S9_S1_0 := by decide
  shapeCasts_S1_S_ := by decide
  slices_S9_S1_8 := by decide

/-- A number whose absolute value compares below infinity is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  induction x with
  | bot => exfalso; revert h; simp [FloatOps.cmpf, FloatOps.hostAbsf, FloatOps.ofBits, Ideal.ofBits, Ideal.ieee, Ideal.cmp]
  | top => exfalso; revert h; simp [FloatOps.cmpf, FloatOps.hostAbsf, FloatOps.ofBits, Ideal.ofBits, Ideal.ieee, Ideal.cmp]
  | coe r => exact ⟨r, rfl⟩

/-- An array whose absolute values all compare below infinity is an array of reals. -/
theorem reals_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1) :
    ∃ f : s.Idx → ℝ, ∀ i, x i = (f i : EReal) := by
  have key (i : s.Idx) : ∃ r : ℝ, x i = r := real_of_abs (x i) (Host.reduce_andi_all _ _ hr hu ix0 h i)
  exact ⟨fun i => (key i).choose, fun i => (key i).choose_spec⟩

/-- The bit of a proposition is set only if the proposition holds. -/
theorem of_bit {p : Prop} [Decidable p] (h : BitVec.ofBool (decide p) = 1#1) : p := by
  by_contra c
  rw [decide_eq_false c] at h
  exact absurd h (by decide)

/-- What the precondition says: the float inputs but the score's bias are real, and the boundaries rise. -/
theorem of_pre (hid : FVec Ideal S8192x256 .f32) (cu : IVec S9 32) (tw : FVec Ideal S256 .f32) (wi : FVec Ideal S256x256 .f32) (bi : FVec Ideal S256 .f32)
    (ws : FVec Ideal S256x1 .f32) (bs : FVec Ideal S1 .f32) (h : fn (F := Ideal) hid cu tw wi bi ws bs ix0 = 1#1) :
    (∃ f : S8192x256.Idx → ℝ, ∀ i, hid i = (f i : EReal)) ∧ (∃ f : S256.Idx → ℝ, ∀ i, tw i = (f i : EReal)) ∧ (∃ f : S256x256.Idx → ℝ, ∀ i, wi i = (f i : EReal))
      ∧ (∃ f : S256.Idx → ℝ, ∀ i, bi i = (f i : EReal)) ∧ (∃ f : S256x1.Idx → ℝ, ∀ i, ws i = (f i : EReal)) ∧ Rising (fun j => cu (ix1 j)) := by
  have both {a b : BitVec 1} (e : IntOp.andi a b = 1#1) : a = 1#1 ∧ b = 1#1 := by
    revert a b; decide
  dsimp only [fn, fn_part1, fn_part2] at h
  obtain ⟨h, h8⟩ := both h
  obtain ⟨h, h0⟩ := both h
  obtain ⟨h, hs⟩ := both h
  obtain ⟨h, hws⟩ := both h
  obtain ⟨h, hbi⟩ := both h
  obtain ⟨h, hwi⟩ := both h
  obtain ⟨hhid, htw⟩ := both h
  refine ⟨reals_of_all hid _ _ _ hhid, reals_of_all tw _ _ _ htw, reals_of_all wi _ _ _ hwi, reals_of_all bi _ _ _ hbi, reals_of_all ws _ _ _ hws, fun j => ?_, ?_, ?_⟩
  · have e := Host.reduce_andi_all _ _ _ _ ix0 hs (ix1 j)
    have e' : IntOp.cmpi .sle (cu (ix1 j.castSucc)) (cu (ix1 j.succ)) = 1#1 := by
      refine Eq.trans ?_ e
      symm
      pointwise
      exact congrArg (fun u : Fin 9 => IntOp.cmpi .sle (cu (ix1 j.castSucc)) (cu (ix1 u))) (Fin.ext (Nat.add_comm 1 j.val))
    rw [WordCmp.cmpi_sle_eq] at e'
    exact of_bit e'
  · have e' : IntOp.cmpi .sle (cu (ix1 0)) 0#32 = 1#1 := by
      refine Eq.trans ?_ h0
      symm
      pointwise
    rw [WordCmp.cmpi_sle_eq] at e'
    exact of_bit e'
  · have e' : IntOp.cmpi .eq (cu (ix1 8)) 8192#32 = 1#1 := by
      refine Eq.trans ?_ h8
      symm
      pointwise
    rw [WordCmp.cmpi_eq_eq] at e'
    exact (congrArg BitVec.toInt (of_bit e')).trans rfl

end Cert.Spans
end
-- ==== Proof.Equal.lean ====
module

public import proofs.«01_k».proof.Proof.KernelValue
public import proofs.«01_k».proof.Proof.RefValue
public import proofs.«01_k».proof.Proof.Maths
public import proofs.«01_k».proof.Proof.Pre

@[expose] public section

set_option maxRecDepth 16384

noncomputable section

open Idealize.ShloMosaic

namespace Cert.Spans

open Cert.Pre_finite_ragged (S8192x256 S9 S256 S256x256 S256x1 S1)
open Cert.KernelIdeal.SpanValue (mean maskedLogit tokenScore wrap)
open Cert.ReferenceIdeal.SpanValue (query logits ends within windowIdx masked exps attention scores clip query_apply logits_apply
  ends_apply within_apply masked_apply exps_apply attention_apply scores_apply)

/-- A softmax mean depends only on the window positions it runs over. -/
theorem mean_congr (n : ℕ) (f f' g g' : ℕ → EReal) (hf : ∀ w < n, f w = f' w) (hg : ∀ w < n, g w = g' w) : mean n f g = mean n f' g' := by
  have hs : (Finset.range n).sup f = (Finset.range n).sup f' := Finset.sup_congr rfl fun w hw => hf w (Finset.mem_range.1 hw)
  unfold mean
  rw [hs]
  congr 1
  · exact Finset.sum_congr rfl fun w hw => by rw [hf w (Finset.mem_range.1 hw), hg w (Finset.mem_range.1 hw)]
  · exact Finset.sum_congr rfl fun w hw => by rw [hf w (Finset.mem_range.1 hw)]

/-- Under the precondition the reference's value at a flat position is the kernel's. -/
theorem value_eq (hid : FVec Ideal S8192x256 .f32) (cu : IVec S9 32) (tw : FVec Ideal S256 .f32) (wi : FVec Ideal S256x256 .f32) (bi : FVec Ideal S256 .f32)
    (ws : FVec Ideal S256x1 .f32) (bs : FVec Ideal S1 .f32) (hpre : Cert.Pre_finite_ragged.fn (F := Ideal) hid cu tw wi bi ws bs ix0 = 1#1) (r : Fin 65536) :
    mean (r % 8 + 1) (maskedLogit cu hid tw wi bi (r / 8)) (tokenScore hid ws (r / 8)) + bs (ix1 0)
      = scores (attention (exps (masked (within (ends cu)) (logits hid (query wi tw bi)) windowIdx))) hid windowIdx ws bs (ix2 r 0) := by
  obtain ⟨⟨H, hH⟩, ⟨T, hT⟩, ⟨W, hW⟩, ⟨B, hB⟩, ⟨U, hU⟩, rising⟩ := of_pre hid cu tw wi bi ws bs hpre
  have ht : r.val / 8 < 8192 := by omega
  obtain ⟨h8, hke, hlt, hle⟩ := end_eq _ rising (r.val / 8) ht
  set e := segEnd (fun j => cu (ix1 j)) (r.val / 8) with he
  set R := (e.toInt - (r.val / 8 : ℕ)).toNat with hR
  -- the logit of a token, a real number
  set A : Fin 8192 → ℝ := fun u => ∑ k : Fin 256, ((∑ j : Fin 256, T (ix1 j) * W (ix2 k j)) + B (ix1 k)) * H (ix2 u k) with hA
  have kl (u : Fin 8192) : ∑ k : Fin 256, ((∑ j : Fin 256, tw (ix1 j) * wi (ix2 k j)) + bi (ix1 k)) * hid (ix2 u k) = (A u : EReal) := by
    simp only [hH, hT, hW, hB, ← EReal.coe_mul, ← coe_sum, ← EReal.coe_add, hA]
  have rl (u : Fin 8192) : logits hid (query wi tw bi) (ix1 u) = (A u : EReal) := by
    rw [← kl, logits_apply]
    refine Finset.sum_congr rfl fun k _ => ?_
    rw [query_apply, mul_comm]
    exact congrArg (fun x => (x + bi (ix1 k)) * hid (ix2 u k)) (Finset.sum_congr rfl fun j _ => mul_comm _ _)
  -- the kernel's side
  have hk : mean (r % 8 + 1) (maskedLogit cu hid tw wi bi (r / 8)) (tokenScore hid ws (r / 8))
      = mean (r % 8 + 1) (fun w => if w < R then (A (wrap (r / 8) w) : EReal) else ⊥)
          (fun w => ∑ k : Fin 256, (U (ix2 k 0) : EReal) * (H (ix2 (wrap (r / 8) w) k) : EReal)) := by
    refine mean_congr _ _ _ _ _ (fun w hw => ?_) fun w hw => ?_
    · unfold maskedLogit
      rw [hke, kernel_mask e (r.val / 8) w ht (by omega) hlt hle, kl]
    · unfold tokenScore
      simp only [hH, hU]
  -- the reference's side
  have hz (w : Fin 8) : masked (within (ends cu)) (logits hid (query wi tw bi)) windowIdx (ix3 (⟨r / 8, ht⟩ : Fin 8192) (⟨r % 8, by omega⟩ : Fin 8) w)
      = if (w : ℕ) < r % 8 + 1 ∧ (w : ℕ) < R then (A (clip (r / 8) w) : EReal) else ⊥ := by
    rw [masked_apply, within_apply, ends_apply cu ⟨r / 8, ht⟩ h8, rl]
    exact reference_mask e (r.val / 8) (r.val % 8) w ht (by omega) w.2 hlt hle _ _
  have same (w : ℕ) (hw : w < 8) (h : w < R) : wrap (r / 8) w = clip (r / 8) w := by
    refine Fin.ext ?_
    show (r.val / 8 + w) % 8192 = min (r.val / 8 + w) 8191
    omega
  rw [hk, scores_apply]
  simp only [attention_apply, exps_apply, hz, hH, hU]
  refine congrArg (fun x : EReal => x + bs (ix1 0)) ?_
  exact mean_eq (r % 8 + 1) R (by omega) (by omega) (by omega) (fun w => A (clip (r / 8) w)) (fun w => A (wrap (r / 8) w))
    (fun w k => H (ix2 (clip (r / 8) w) k)) (fun w k => H (ix2 (wrap (r / 8) w) k)) (fun k => U (ix2 k 0))
    (fun w hw h => by rw [same w hw h]) (fun w hw h => by rw [same w hw h])

end Cert.Spans
end
-- ==== Proof.lean ====
/- The claim: the three programs keep their arguments and their semaphores, the ideal kernel is the kernel with its mask
   constant named, and the ideal kernel and the ideal reference compute the same array.  The steps are in the modules
   under Proof/: KernelRow, KernelOut, KernelRun and KernelValue for the kernel, RefStages and RefValue for the
   reference, Bounds for the boundary words, Pre for the precondition, Maths for the identity between the two
   softmax means, Equal for the equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run with its semaphores: its arguments end unchanged and every semaphore counter ends at zero. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition, on agreeing arguments, the kernel's result array is the reference's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_ragged m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v76 m' c = Cert.KernelIdeal.SpanValue.result m c := by
  refine (Cert.ReferenceIdeal.SpanValue.result_eq m' c).trans ?_
  rw [h0, h1, h2, h3, h4, h5, h6]
  funext i
  obtain ⟨r, rfl⟩ : ∃ r : Fin 65536, i = ix2 r 0 := by
    refine ⟨i 0, funext fun a => ?_⟩
    match a with
    | ⟨0, _⟩ => rfl
    | ⟨1, _⟩ => exact Subsingleton.elim (α := Fin 1) _ _
  exact (Cert.Spans.value_eq _ _ _ _ _ _ _ (congrFun (hpre c) ix0) r).symm.trans (Cert.KernelIdeal.SpanValue.result_apply m c r).symm

/-- The claims: the three frames, the one renamed constant, and the kernel's value as the reference's. -/
theorem claim : Cert.Claim := ⟨Cert.Kernel.Gen.facts, Cert.KernelIdeal.Gen.facts, Cert.ReferenceIdeal.Gen.facts, Cert.Spans.preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "mask" .f32 0xF149F2CA#32 ⊥ rfl,
  fun m g m' g' hpre hagree => ⟨fun c => Cert.KernelIdeal.SpanValue.result m c, Cert.KernelIdeal.SpanValue.run m g,
    (θ_run Cert.ReferenceIdeal.defs _ _).mono (fun r h c => by
      obtain ⟨h0, h1, h2, h3, h4, h5, h6⟩ := hagree c
      exact ⟨(h c).1.trans (same_result m m' hpre c h0 h1 h2 h3 h4 h5 h6), (h c).2⟩)
      (Cert.ReferenceIdeal.Value.run (F := Ideal) m' g')⟩⟩

end Cert.Proof

end
